-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![4096, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![4096, 4096]⟩ (Layout.meshBlock [2, 4, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.blockN ⟨2, ![256, 4096]⟩ ⟨2, ![1024, 4096]⟩ (Layout.meshBlock [2, 4, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S_ : Shape := ⟨0, ![]⟩
abbrev S256x4096 : Shape := ⟨2, ![256, 4096]⟩
abbrev S4x4x256x256 : Shape := ⟨4, ![4, 4, 256, 256]⟩
abbrev S4x3 : Shape := ⟨2, ![4, 3]⟩
abbrev S1024x256 : Shape := ⟨2, ![1024, 256]⟩
abbrev S256x256 : Shape := ⟨2, ![256, 256]⟩
abbrev S1x1x256x256 : Shape := ⟨4, ![1, 1, 256, 256]⟩
abbrev S1x1 : Shape := ⟨2, ![1, 1]⟩

abbrev nBuf : Space → Nat
  | .hbm => 18
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1024x1024, .bf16⟩
  | .hbm, ⟨17, _⟩ => ⟨S256x4096, .f32⟩
  | .local _ .vmem, ⟨0, _⟩ => ⟨S1024x1024, .bf16⟩
  | .local _ .vmem, ⟨1, _⟩ => ⟨S1024x1024, .bf16⟩
  | .local _ .vmem, ⟨2, _⟩ => ⟨S256x4096, .f32⟩
  | .local _ .vmem, ⟨3, _⟩ => ⟨S1024x1024, .f32⟩
  | .local _ .vmem, ⟨4, _⟩ => ⟨S4x4x256x256, .bf16⟩
  | .local _ .vmem, ⟨5, _⟩ => ⟨S4x4x256x256, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := ⟨1, ![1], ![false]⟩

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v18 : BitVec 32 := Scalar.muli v2 c16_i32_10
  let v19 : BitVec 32 := Scalar.addi c0_i32 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v9 : BitVec 32 := Scalar.addi v5 c3_i32
  let c4_i32_2 : BitVec 32 := 4#32
  let v10 : BitVec 32 := Scalar.remsi v9 c4_i32_2
  let c4_i32_11 : BitVec 32 := 4#32
  let v20 : BitVec 32 := Scalar.muli v10 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_dev2 (d0 : Dev nD) : Nat :=
  let c0_i32_15 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_14 : BitVec 32 := 16#32
  let v24 : BitVec 32 := Scalar.muli v2 c16_i32_14
  let v25 : BitVec 32 := Scalar.addi c0_i32_15 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_16 : BitVec 32 := 4#32
  let v26 : BitVec 32 := Scalar.muli v12 c4_i32_16
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v28 : BitVec 32 := Scalar.muli v8 c1_i32_17
  let v29 : BitVec 32 := Scalar.addi v27 v28
  v29.toNat
def k0_dev3 (d0 : Dev nD) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v30 : BitVec 32 := Scalar.muli v2 c16_i32_19
  let v31 : BitVec 32 := Scalar.addi c0_i32_20 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v32 : BitVec 32 := Scalar.muli v5 c4_i32_21
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_5 : BitVec 32 := 3#32
  let v13 : BitVec 32 := Scalar.addi v8 c3_i32_5
  let c4_i32_6 : BitVec 32 := 4#32
  let v14 : BitVec 32 := Scalar.remsi v13 c4_i32_6
  let c1_i32_22 : BitVec 32 := 1#32
  let v34 : BitVec 32 := Scalar.muli v14 c1_i32_22
  let v35 : BitVec 32 := Scalar.addi v33 v34
  v35.toNat
def k0_dev4 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v36 : BitVec 32 := Scalar.muli v2 c16_i32_24
  let v37 : BitVec 32 := Scalar.addi c0_i32_25 v36
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_26 : BitVec 32 := 4#32
  let v38 : BitVec 32 := Scalar.muli v5 c4_i32_26
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c4_i32_8 : BitVec 32 := 4#32
  let v16 : BitVec 32 := Scalar.remsi v15 c4_i32_8
  let c1_i32_27 : BitVec 32 := 1#32
  let v40 : BitVec 32 := Scalar.muli v16 c1_i32_27
  let v41 : BitVec 32 := Scalar.addi v39 v40
  v41.toNat
def k0_off1 (d0 : Dev nD) (c3_i32_30 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v44 : BitVec 32 := Scalar.addi v5 c3_i32_30
  let c4_i32_31 : BitVec 32 := 4#32
  let v45 : BitVec 32 := Scalar.remsi v44 c4_i32_31
  let c256_i32 : BitVec 32 := 256#32
  let v52 : BitVec 32 := Scalar.muli v45 c256_i32
  let v53 : Index := Scalar.indexCast v52
  let c0_36 : Index := 0#32
  ![v53.toNat, 0]
def k0_dev5 (d0 : Dev nD) : Nat :=
  let c0_i32_50 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_49 : BitVec 32 := 16#32
  let v59 : BitVec 32 := Scalar.muli v2 c16_i32_49
  let v60 : BitVec 32 := Scalar.addi c0_i32_50 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_51 : BitVec 32 := 4#32
  let v61 : BitVec 32 := Scalar.muli v12 c4_i32_51
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v63 : BitVec 32 := Scalar.muli v8 c1_i32_52
  let v64 : BitVec 32 := Scalar.addi v62 v63
  v64.toNat
def k0_off2 (d0 : Dev nD) (c3_i32_30 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v44 : BitVec 32 := Scalar.addi v5 c3_i32_30
  let c4_i32_31 : BitVec 32 := 4#32
  let v45 : BitVec 32 := Scalar.remsi v44 c4_i32_31
  let c256_i32_61 : BitVec 32 := 256#32
  let v79 : BitVec 32 := Scalar.muli v45 c256_i32_61
  let v80 : Index := Scalar.indexCast v79
  let c256_62 : Index := 256#32
  ![v80.toNat, 256]
def k0_dev6 (d0 : Dev nD) : Nat :=
  let c0_i32_75 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_74 : BitVec 32 := 16#32
  let v86 : BitVec 32 := Scalar.muli v2 c16_i32_74
  let v87 : BitVec 32 := Scalar.addi c0_i32_75 v86
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_76 : BitVec 32 := 4#32
  let v88 : BitVec 32 := Scalar.muli v12 c4_i32_76
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v90 : BitVec 32 := Scalar.muli v8 c1_i32_77
  let v91 : BitVec 32 := Scalar.addi v89 v90
  v91.toNat
def k0_off3 (d0 : Dev nD) (c3_i32_30 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v44 : BitVec 32 := Scalar.addi v5 c3_i32_30
  let c4_i32_31 : BitVec 32 := 4#32
  let v45 : BitVec 32 := Scalar.remsi v44 c4_i32_31
  let c256_i32_86 : BitVec 32 := 256#32
  let v106 : BitVec 32 := Scalar.muli v45 c256_i32_86
  let v107 : Index := Scalar.indexCast v106
  let c512_87 : Index := 512#32
  ![v107.toNat, 512]
def k0_dev7 (d0 : Dev nD) : Nat :=
  let c0_i32_100 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_99 : BitVec 32 := 16#32
  let v113 : BitVec 32 := Scalar.muli v2 c16_i32_99
  let v114 : BitVec 32 := Scalar.addi c0_i32_100 v113
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_101 : BitVec 32 := 4#32
  let v115 : BitVec 32 := Scalar.muli v12 c4_i32_101
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v117 : BitVec 32 := Scalar.muli v8 c1_i32_102
  let v118 : BitVec 32 := Scalar.addi v116 v117
  v118.toNat
def k0_off4 (d0 : Dev nD) (c3_i32_30 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v44 : BitVec 32 := Scalar.addi v5 c3_i32_30
  let c4_i32_31 : BitVec 32 := 4#32
  let v45 : BitVec 32 := Scalar.remsi v44 c4_i32_31
  let c256_i32_111 : BitVec 32 := 256#32
  let v133 : BitVec 32 := Scalar.muli v45 c256_i32_111
  let v134 : Index := Scalar.indexCast v133
  let c768_112 : Index := 768#32
  ![v134.toNat, 768]
def k0_dev8 (d0 : Dev nD) : Nat :=
  let c0_i32_125 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_124 : BitVec 32 := 16#32
  let v140 : BitVec 32 := Scalar.muli v2 c16_i32_124
  let v141 : BitVec 32 := Scalar.addi c0_i32_125 v140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_126 : BitVec 32 := 4#32
  let v142 : BitVec 32 := Scalar.muli v12 c4_i32_126
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v144 : BitVec 32 := Scalar.muli v8 c1_i32_127
  let v145 : BitVec 32 := Scalar.addi v143 v144
  v145.toNat
def k0_dev9 (d0 : Dev nD) : Nat :=
  let c0_i32_168 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_167 : BitVec 32 := 16#32
  let v179 : BitVec 32 := Scalar.muli v2 c16_i32_167
  let v180 : BitVec 32 := Scalar.addi c0_i32_168 v179
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_169 : BitVec 32 := 4#32
  let v181 : BitVec 32 := Scalar.muli v12 c4_i32_169
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v183 : BitVec 32 := Scalar.muli v8 c1_i32_170
  let v184 : BitVec 32 := Scalar.addi v182 v183
  v184.toNat
def k0_dev10 (d0 : Dev nD) : Nat :=
  let c0_i32_210 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_209 : BitVec 32 := 16#32
  let v216 : BitVec 32 := Scalar.muli v2 c16_i32_209
  let v217 : BitVec 32 := Scalar.addi c0_i32_210 v216
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_211 : BitVec 32 := 4#32
  let v218 : BitVec 32 := Scalar.muli v12 c4_i32_211
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v220 : BitVec 32 := Scalar.muli v8 c1_i32_212
  let v221 : BitVec 32 := Scalar.addi v219 v220
  v221.toNat
def k0_dev11 (d0 : Dev nD) : Nat :=
  let c0_i32_252 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_251 : BitVec 32 := 16#32
  let v253 : BitVec 32 := Scalar.muli v2 c16_i32_251
  let v254 : BitVec 32 := Scalar.addi c0_i32_252 v253
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_253 : BitVec 32 := 4#32
  let v255 : BitVec 32 := Scalar.muli v12 c4_i32_253
  let v256 : BitVec 32 := Scalar.addi v254 v255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_254 : BitVec 32 := 1#32
  let v257 : BitVec 32 := Scalar.muli v8 c1_i32_254
  let v258 : BitVec 32 := Scalar.addi v256 v257
  v258.toNat
def k0_dev12 (d0 : Dev nD) : Nat :=
  let c0_i32_294 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_293 : BitVec 32 := 16#32
  let v290 : BitVec 32 := Scalar.muli v2 c16_i32_293
  let v291 : BitVec 32 := Scalar.addi c0_i32_294 v290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_295 : BitVec 32 := 4#32
  let v292 : BitVec 32 := Scalar.muli v12 c4_i32_295
  let v293 : BitVec 32 := Scalar.addi v291 v292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_296 : BitVec 32 := 1#32
  let v294 : BitVec 32 := Scalar.muli v8 c1_i32_296
  let v295 : BitVec 32 := Scalar.addi v293 v294
  v295.toNat
def k0_dev13 (d0 : Dev nD) : Nat :=
  let c0_i32_337 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_336 : BitVec 32 := 16#32
  let v329 : BitVec 32 := Scalar.muli v2 c16_i32_336
  let v330 : BitVec 32 := Scalar.addi c0_i32_337 v329
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_338 : BitVec 32 := 4#32
  let v331 : BitVec 32 := Scalar.muli v12 c4_i32_338
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v333 : BitVec 32 := Scalar.muli v8 c1_i32_339
  let v334 : BitVec 32 := Scalar.addi v332 v333
  v334.toNat
def k0_dev14 (d0 : Dev nD) : Nat :=
  let c0_i32_379 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_378 : BitVec 32 := 16#32
  let v366 : BitVec 32 := Scalar.muli v2 c16_i32_378
  let v367 : BitVec 32 := Scalar.addi c0_i32_379 v366
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_380 : BitVec 32 := 4#32
  let v368 : BitVec 32 := Scalar.muli v12 c4_i32_380
  let v369 : BitVec 32 := Scalar.addi v367 v368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_381 : BitVec 32 := 1#32
  let v370 : BitVec 32 := Scalar.muli v8 c1_i32_381
  let v371 : BitVec 32 := Scalar.addi v369 v370
  v371.toNat
def k0_dev15 (d0 : Dev nD) : Nat :=
  let c0_i32_421 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_420 : BitVec 32 := 16#32
  let v403 : BitVec 32 := Scalar.muli v2 c16_i32_420
  let v404 : BitVec 32 := Scalar.addi c0_i32_421 v403
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_422 : BitVec 32 := 4#32
  let v405 : BitVec 32 := Scalar.muli v12 c4_i32_422
  let v406 : BitVec 32 := Scalar.addi v404 v405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_423 : BitVec 32 := 1#32
  let v407 : BitVec 32 := Scalar.muli v8 c1_i32_423
  let v408 : BitVec 32 := Scalar.addi v406 v407
  v408.toNat
def k0_dev16 (d0 : Dev nD) : Nat :=
  let c0_i32_463 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_462 : BitVec 32 := 16#32
  let v440 : BitVec 32 := Scalar.muli v2 c16_i32_462
  let v441 : BitVec 32 := Scalar.addi c0_i32_463 v440
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_464 : BitVec 32 := 4#32
  let v442 : BitVec 32 := Scalar.muli v12 c4_i32_464
  let v443 : BitVec 32 := Scalar.addi v441 v442
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_465 : BitVec 32 := 1#32
  let v444 : BitVec 32 := Scalar.muli v8 c1_i32_465
  let v445 : BitVec 32 := Scalar.addi v443 v444
  v445.toNat
def k0_off5 (d0 : Dev nD) : Fin 4 → Nat :=
  let c0_494 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v476 : Index := Scalar.indexCast v8
  let c0_495 : Index := 0#32
  let c0_496 : Index := 0#32
  ![0, v476.toNat, 0, 0]
def k0_off6 (d0 : Dev nD) (c4_i32_497 : BitVec 32) : Fin 4 → Nat :=
  let c0_i32_500 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v480 : BitVec 32 := Scalar.addi v8 c4_i32_497
  let c4_i32_498 : BitVec 32 := 4#32
  let v481 : BitVec 32 := Scalar.remsi v480 c4_i32_498
  let c0_i32_509 : BitVec 32 := 0#32
  let c0_i32_510 : BitVec 32 := 0#32
  ![0, v481.toNat, 0, 0]
def k0_dev17 (d0 : Dev nD) : Nat :=
  let c0_i32_506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_505 : BitVec 32 := 16#32
  let v482 : BitVec 32 := Scalar.muli v2 c16_i32_505
  let v483 : BitVec 32 := Scalar.addi c0_i32_506 v482
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_507 : BitVec 32 := 4#32
  let v484 : BitVec 32 := Scalar.muli v5 c4_i32_507
  let v485 : BitVec 32 := Scalar.addi v483 v484
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c4_i32_8 : BitVec 32 := 4#32
  let v16 : BitVec 32 := Scalar.remsi v15 c4_i32_8
  let c1_i32_508 : BitVec 32 := 1#32
  let v486 : BitVec 32 := Scalar.muli v16 c1_i32_508
  let v487 : BitVec 32 := Scalar.addi v485 v486
  v487.toNat
def k0_off7 (d0 : Dev nD) : Fin 4 → Nat :=
  let c1_535 : Index := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v516 : Index := Scalar.indexCast v8
  let c0_536 : Index := 0#32
  let c0_537 : Index := 0#32
  ![1, v516.toNat, 0, 0]
def k0_off8 (d0 : Dev nD) (c4_i32_538 : BitVec 32) : Fin 4 → Nat :=
  let c1_i32_541 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v520 : BitVec 32 := Scalar.addi v8 c4_i32_538
  let c4_i32_539 : BitVec 32 := 4#32
  let v521 : BitVec 32 := Scalar.remsi v520 c4_i32_539
  let c0_i32_550 : BitVec 32 := 0#32
  let c0_i32_551 : BitVec 32 := 0#32
  ![1, v521.toNat, 0, 0]
def k0_dev18 (d0 : Dev nD) : Nat :=
  let c0_i32_547 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_546 : BitVec 32 := 16#32
  let v522 : BitVec 32 := Scalar.muli v2 c16_i32_546
  let v523 : BitVec 32 := Scalar.addi c0_i32_547 v522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_548 : BitVec 32 := 4#32
  let v524 : BitVec 32 := Scalar.muli v5 c4_i32_548
  let v525 : BitVec 32 := Scalar.addi v523 v524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c4_i32_8 : BitVec 32 := 4#32
  let v16 : BitVec 32 := Scalar.remsi v15 c4_i32_8
  let c1_i32_549 : BitVec 32 := 1#32
  let v526 : BitVec 32 := Scalar.muli v16 c1_i32_549
  let v527 : BitVec 32 := Scalar.addi v525 v526
  v527.toNat
def k0_off9 (d0 : Dev nD) : Fin 4 → Nat :=
  let c2_576 : Index := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v556 : Index := Scalar.indexCast v8
  let c0_577 : Index := 0#32
  let c0_578 : Index := 0#32
  ![2, v556.toNat, 0, 0]
def k0_off10 (d0 : Dev nD) (c4_i32_579 : BitVec 32) : Fin 4 → Nat :=
  let c2_i32_582 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v560 : BitVec 32 := Scalar.addi v8 c4_i32_579
  let c4_i32_580 : BitVec 32 := 4#32
  let v561 : BitVec 32 := Scalar.remsi v560 c4_i32_580
  let c0_i32_591 : BitVec 32 := 0#32
  let c0_i32_592 : BitVec 32 := 0#32
  ![2, v561.toNat, 0, 0]
def k0_dev19 (d0 : Dev nD) : Nat :=
  let c0_i32_588 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_587 : BitVec 32 := 16#32
  let v562 : BitVec 32 := Scalar.muli v2 c16_i32_587
  let v563 : BitVec 32 := Scalar.addi c0_i32_588 v562
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_589 : BitVec 32 := 4#32
  let v564 : BitVec 32 := Scalar.muli v5 c4_i32_589
  let v565 : BitVec 32 := Scalar.addi v563 v564
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c4_i32_8 : BitVec 32 := 4#32
  let v16 : BitVec 32 := Scalar.remsi v15 c4_i32_8
  let c1_i32_590 : BitVec 32 := 1#32
  let v566 : BitVec 32 := Scalar.muli v16 c1_i32_590
  let v567 : BitVec 32 := Scalar.addi v565 v566
  v567.toNat
def k0_off11 (d0 : Dev nD) : Fin 4 → Nat :=
  let c3_617 : Index := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v596 : Index := Scalar.indexCast v8
  let c0_618 : Index := 0#32
  let c0_619 : Index := 0#32
  ![3, v596.toNat, 0, 0]
def k0_off12 (d0 : Dev nD) (c4_i32_620 : BitVec 32) : Fin 4 → Nat :=
  let c3_i32_623 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v600 : BitVec 32 := Scalar.addi v8 c4_i32_620
  let c4_i32_621 : BitVec 32 := 4#32
  let v601 : BitVec 32 := Scalar.remsi v600 c4_i32_621
  let c0_i32_632 : BitVec 32 := 0#32
  let c0_i32_633 : BitVec 32 := 0#32
  ![3, v601.toNat, 0, 0]
def k0_dev20 (d0 : Dev nD) : Nat :=
  let c0_i32_629 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_628 : BitVec 32 := 16#32
  let v602 : BitVec 32 := Scalar.muli v2 c16_i32_628
  let v603 : BitVec 32 := Scalar.addi c0_i32_629 v602
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_630 : BitVec 32 := 4#32
  let v604 : BitVec 32 := Scalar.muli v5 c4_i32_630
  let v605 : BitVec 32 := Scalar.addi v603 v604
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c4_i32_8 : BitVec 32 := 4#32
  let v16 : BitVec 32 := Scalar.remsi v15 c4_i32_8
  let c1_i32_631 : BitVec 32 := 1#32
  let v606 : BitVec 32 := Scalar.muli v16 c1_i32_631
  let v607 : BitVec 32 := Scalar.addi v605 v606
  v607.toNat
def k0_dev21 (d0 : Dev nD) : Nat :=
  let c0_i32_659 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_658 : BitVec 32 := 16#32
  let v630 : BitVec 32 := Scalar.muli v2 c16_i32_658
  let v631 : BitVec 32 := Scalar.addi c0_i32_659 v630
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_660 : BitVec 32 := 4#32
  let v632 : BitVec 32 := Scalar.muli v5 c4_i32_660
  let v633 : BitVec 32 := Scalar.addi v631 v632
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c4_i32_8 : BitVec 32 := 4#32
  let v16 : BitVec 32 := Scalar.remsi v15 c4_i32_8
  let c1_i32_661 : BitVec 32 := 1#32
  let v634 : BitVec 32 := Scalar.muli v16 c1_i32_661
  let v635 : BitVec 32 := Scalar.addi v633 v634
  v635.toNat
def k0_dev22 (d0 : Dev nD) : Nat :=
  let c0_i32_689 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_688 : BitVec 32 := 16#32
  let v658 : BitVec 32 := Scalar.muli v2 c16_i32_688
  let v659 : BitVec 32 := Scalar.addi c0_i32_689 v658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_690 : BitVec 32 := 4#32
  let v660 : BitVec 32 := Scalar.muli v5 c4_i32_690
  let v661 : BitVec 32 := Scalar.addi v659 v660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c4_i32_8 : BitVec 32 := 4#32
  let v16 : BitVec 32 := Scalar.remsi v15 c4_i32_8
  let c1_i32_691 : BitVec 32 := 1#32
  let v662 : BitVec 32 := Scalar.muli v16 c1_i32_691
  let v663 : BitVec 32 := Scalar.addi v661 v662
  v663.toNat
def k0_dev23 (d0 : Dev nD) : Nat :=
  let c0_i32_719 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_718 : BitVec 32 := 16#32
  let v686 : BitVec 32 := Scalar.muli v2 c16_i32_718
  let v687 : BitVec 32 := Scalar.addi c0_i32_719 v686
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_720 : BitVec 32 := 4#32
  let v688 : BitVec 32 := Scalar.muli v5 c4_i32_720
  let v689 : BitVec 32 := Scalar.addi v687 v688
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c4_i32_8 : BitVec 32 := 4#32
  let v16 : BitVec 32 := Scalar.remsi v15 c4_i32_8
  let c1_i32_721 : BitVec 32 := 1#32
  let v690 : BitVec 32 := Scalar.muli v16 c1_i32_721
  let v691 : BitVec 32 := Scalar.addi v689 v690
  v691.toNat
def k0_dev24 (d0 : Dev nD) : Nat :=
  let c0_i32_749 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_748 : BitVec 32 := 16#32
  let v714 : BitVec 32 := Scalar.muli v2 c16_i32_748
  let v715 : BitVec 32 := Scalar.addi c0_i32_749 v714
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_750 : BitVec 32 := 4#32
  let v716 : BitVec 32 := Scalar.muli v5 c4_i32_750
  let v717 : BitVec 32 := Scalar.addi v715 v716
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c4_i32_8 : BitVec 32 := 4#32
  let v16 : BitVec 32 := Scalar.remsi v15 c4_i32_8
  let c1_i32_751 : BitVec 32 := 1#32
  let v718 : BitVec 32 := Scalar.muli v16 c1_i32_751
  let v719 : BitVec 32 := Scalar.addi v717 v718
  v719.toNat
def k0_dev25 (d0 : Dev nD) : Nat :=
  let c0_i32_779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_778 : BitVec 32 := 16#32
  let v742 : BitVec 32 := Scalar.muli v2 c16_i32_778
  let v743 : BitVec 32 := Scalar.addi c0_i32_779 v742
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_780 : BitVec 32 := 4#32
  let v744 : BitVec 32 := Scalar.muli v5 c4_i32_780
  let v745 : BitVec 32 := Scalar.addi v743 v744
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c4_i32_8 : BitVec 32 := 4#32
  let v16 : BitVec 32 := Scalar.remsi v15 c4_i32_8
  let c1_i32_781 : BitVec 32 := 1#32
  let v746 : BitVec 32 := Scalar.muli v16 c1_i32_781
  let v747 : BitVec 32 := Scalar.addi v745 v746
  v747.toNat
def k0_dev26 (d0 : Dev nD) : Nat :=
  let c0_i32_809 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_808 : BitVec 32 := 16#32
  let v770 : BitVec 32 := Scalar.muli v2 c16_i32_808
  let v771 : BitVec 32 := Scalar.addi c0_i32_809 v770
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_810 : BitVec 32 := 4#32
  let v772 : BitVec 32 := Scalar.muli v5 c4_i32_810
  let v773 : BitVec 32 := Scalar.addi v771 v772
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c4_i32_8 : BitVec 32 := 4#32
  let v16 : BitVec 32 := Scalar.remsi v15 c4_i32_8
  let c1_i32_811 : BitVec 32 := 1#32
  let v774 : BitVec 32 := Scalar.muli v16 c1_i32_811
  let v775 : BitVec 32 := Scalar.addi v773 v774
  v775.toNat
def k0_dev27 (d0 : Dev nD) : Nat :=
  let c0_i32_839 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_838 : BitVec 32 := 16#32
  let v798 : BitVec 32 := Scalar.muli v2 c16_i32_838
  let v799 : BitVec 32 := Scalar.addi c0_i32_839 v798
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_840 : BitVec 32 := 4#32
  let v800 : BitVec 32 := Scalar.muli v5 c4_i32_840
  let v801 : BitVec 32 := Scalar.addi v799 v800
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c4_i32_8 : BitVec 32 := 4#32
  let v16 : BitVec 32 := Scalar.remsi v15 c4_i32_8
  let c1_i32_841 : BitVec 32 := 1#32
  let v802 : BitVec 32 := Scalar.muli v16 c1_i32_841
  let v803 : BitVec 32 := Scalar.addi v801 v802
  v803.toNat
def k0_dev28 (d0 : Dev nD) : Nat :=
  let c0_i32_869 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_868 : BitVec 32 := 16#32
  let v826 : BitVec 32 := Scalar.muli v2 c16_i32_868
  let v827 : BitVec 32 := Scalar.addi c0_i32_869 v826
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_870 : BitVec 32 := 4#32
  let v828 : BitVec 32 := Scalar.muli v5 c4_i32_870
  let v829 : BitVec 32 := Scalar.addi v827 v828
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c4_i32_8 : BitVec 32 := 4#32
  let v16 : BitVec 32 := Scalar.remsi v15 c4_i32_8
  let c1_i32_871 : BitVec 32 := 1#32
  let v830 : BitVec 32 := Scalar.muli v16 c1_i32_871
  let v831 : BitVec 32 := Scalar.addi v829 v830
  v831.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x1024 : Shape := ⟨2, ![4096, 1024]⟩
abbrev S4096x4096 : Shape := ⟨2, ![4096, 4096]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .hbm, ⟨3, _⟩ => ⟨S1024x4096, .f32⟩
  | .hbm, ⟨4, _⟩ => ⟨S1024x4096, .bf16⟩
  | .hbm, ⟨5, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Common.lean ====
/-
  The parts of the two-ring kernel that its proof names: the neighbours of a device along the mesh axes
  `y` and `z`, the slots of the two communication buffers, the semaphore cells, what every slot holds at
  every moment as a function of the operands' blocks of all devices, and the schedule of the payments.

  Device `c` of the mesh `2 × 4 × 4` has coordinates `x = c / 16`, `y = c / 4 % 4`, `z = c % 4`. Along `y` the
  kernel reduces and scatters: it sends 12 slots to its right neighbour, numbered `n = 4 * s + st` in the
  program's order (`st` the column block, `s` the ring step), and receives as many from its left one. Along
  `z` it gathers: again 12 transfers, numbered the same way.
-/
module

public import Idealize.ShloMosaic.Lib.Pipeline.Regions
public import Idealize.ShloMosaic.Lib.Pipeline.RegionTalk
public import Idealize.ShloMosaic.Lib.Pipeline.Launch
public import Idealize.ShloMosaic.Lib.Pipeline.Kit
public import Idealize.ShloMosaic.Lib.Pipeline.Value
public import Idealize.ShloMosaic.Lib.Rounds
public import Idealize.ShloMosaic.Lib.StableHlo
public import Idealize.ShloMosaic.Lib.Tactic
public import Idealize.ShloMosaic.Lib.Memref
public import Idealize.ShloMosaic.Lib.MemrefSat
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resource algebra: the pipeline library's copy and the rings' (four names of duties) -/

/-- The ghost state of the ring's cells. -/
abbrev URing : Type := Rounds.URounds (GSem nD τ sig) (Fin 4)
/-- The ghost state of the pipeline beside that of the ring. -/
abbrev UU : Type := UR sig nD τ × URing

local notation "𝕄" => MT nD τ sig Unit (Elt F) ℕ UU ℕ

/-- Where the pipeline's ghost state sits. -/
abbrev EP : Emb (UR sig nD τ) (MT nD τ sig Unit (Elt F) ℕ UU ℕ) := embL
/-- Where the ring's ghost state sits. -/
abbrev ER : Emb URing (MT nD τ sig Unit (Elt F) ℕ UU ℕ) := embR

/-! ## Neighbours -/

/-- The left and the right neighbour along `y`. -/
def yL (c : Dev nD) : Dev nD := ⟨16 * (c.val / 16) + 4 * ((c.val / 4 % 4 + 3) % 4) + c.val % 4, by have := c.isLt; unfold nD at *; omega⟩
/-- The right neighbour along `y`. -/
def yR (c : Dev nD) : Dev nD := ⟨16 * (c.val / 16) + 4 * ((c.val / 4 % 4 + 1) % 4) + c.val % 4, by have := c.isLt; unfold nD at *; omega⟩
/-- The left and the right neighbour along `z`. -/
def zL (c : Dev nD) : Dev nD := ⟨16 * (c.val / 16) + 4 * (c.val / 4 % 4) + (c.val % 4 + 3) % 4, by have := c.isLt; unfold nD at *; omega⟩
/-- The right neighbour along `z`. -/
def zR (c : Dev nD) : Dev nD := ⟨16 * (c.val / 16) + 4 * (c.val / 4 % 4) + (c.val % 4 + 1) % 4, by have := c.isLt; unfold nD at *; omega⟩
/-- The device at coordinate `q` along `z`, the others being `c`'s. -/
def atZ (c : Dev nD) (q : ℕ) : Dev nD := ⟨16 * (c.val / 16) + 4 * (c.val / 4 % 4) + q % 4, by have := c.isLt; unfold nD at *; omega⟩

/-- Right, then left along `y` leads back. -/
theorem yL_yR (c : Dev nD) : yL (yR c) = c := by revert c; decide
/-- Left, then right along `y` leads back. -/
theorem yR_yL (c : Dev nD) : yR (yL c) = c := by revert c; decide
/-- Right, then left along `z` leads back. -/
theorem zL_zR (c : Dev nD) : zL (zR c) = c := by revert c; decide
/-- Left, then right along `z` leads back. -/
theorem zR_zL (c : Dev nD) : zR (zL c) = c := by revert c; decide
/-- The right neighbour along `z` names the same device at coordinate `q`. -/
theorem atZ_zR (c : Dev nD) (q : ℕ) : atZ (zR c) q = atZ c q := by
  apply Fin.ext; simp only [atZ, zR]; omega
/-- The device at `c`'s own coordinate along `z` is `c`. -/
theorem atZ_self (c : Dev nD) : atZ c (c.val % 4) = c := by
  apply Fin.ext; simp only [atZ]; omega

/-- The step to the right along `y`, as a permutation of the devices. -/
def ringY : Dev nD ≃ Dev nD := ⟨yR, yL, yL_yR, yR_yL⟩
/-- The step to the right along `z`, as a permutation of the devices. -/
def ringZ : Dev nD ≃ Dev nD := ⟨zR, zL, zL_zR, zR_zL⟩

/-! ## Slots

Slot `(a, b)` of a communication buffer: 256 × 256 elements. The program moves it through a view
without the two leading axes. -/

/-- The first operand's buffer. -/
abbrev xM : Memref sig .tc .vmem S1024x1024 .bf16 := Memref.whole cc0_stg0_0
/-- The second operand's buffer. -/
abbrev yM : Memref sig .tc .vmem S1024x1024 .bf16 := Memref.whole cc0_stg1_0
/-- The result's buffer. -/
abbrev oM : Memref sig .tc .vmem S256x4096 .f32 := Memref.whole cc0_stg2_0
/-- The accumulator. -/
abbrev aM : Memref sig .tc .vmem S1024x1024 .f32 := Memref.whole cc0_scratch0
/-- The buffer of the exchange along `y`. -/
abbrev cM : Memref sig .tc .vmem S4x4x256x256 .bf16 := Memref.whole cc0_scratch1
/-- The buffer of the exchange along `z`. -/
abbrev gM : Memref sig .tc .vmem S4x4x256x256 .bf16 := Memref.whole cc0_scratch2

/-- A slot lies within the buffer. -/
theorem slot_inb (a b : ℕ) : ∀ i, (![a % 4, b % 4, 0, 0] : Fin S4x4x256x256.rank → ℕ) i + S1x1x256x256.size i ≤ S4x4x256x256.size i := by
  intro i
  match i with
  | 0 => show a % 4 + 1 ≤ 4; omega
  | 1 => show b % 4 + 1 ≤ 4; omega
  | 2 => show 0 + 256 ≤ 256; omega
  | 3 => show 0 + 256 ≤ 256; omega

/-- The rectangle of slot `(a, b)`, both coordinates taken modulo four. -/
abbrev slotR (a b : ℕ) : Rect S4x4x256x256 := Rect.unit (s := S4x4x256x256) ![a % 4, b % 4, 0, 0] S1x1x256x256.size (slot_inb a b)

/-- Slot `(a, b)` of the reduce buffer, of the gather buffer. -/
abbrev cS (a b : ℕ) : Memref sig .tc .vmem S1x1x256x256 .bf16 := cM.slice (slotR a b) (fun _ => rfl)
/-- Slot `(a, b)` of the gather buffer. -/
abbrev gS (a b : ℕ) : Memref sig .tc .vmem S1x1x256x256 .bf16 := gM.slice (slotR a b) (fun _ => rfl)
/-- The same without the leading axes: what a transfer names. -/
abbrev sq (M : Memref sig .tc .vmem S1x1x256x256 .bf16) : Memref sig .tc .vmem S256x256 .bf16 := M.squeeze S256x256 squeezes_S1x1x256x256_S256x256

/-- The column blocks of the accumulator, of the second operand, of the result. -/
theorem colA_inb (k : ℕ) : ∀ i, (![0, 256 * (k % 4)] : Fin S1024x1024.rank → ℕ) i + S1024x256.size i ≤ S1024x1024.size i := by
  intro i
  match i with
  | 0 => show 0 + 1024 ≤ 1024; omega
  | 1 => show 256 * (k % 4) + 256 ≤ 1024; omega
/-- Column block `k` of a 1024 × 1024 buffer. -/
abbrev colA (k : ℕ) : Rect S1024x1024 := Rect.unit (s := S1024x1024) ![0, 256 * (k % 4)] S1024x256.size (colA_inb k)
/-- A column block lies within the result. -/
theorem colO_inb (k : ℕ) : ∀ i, (![0, 256 * (k % 16)] : Fin S256x4096.rank → ℕ) i + S256x256.size i ≤ S256x4096.size i := by
  intro i
  match i with
  | 0 => show 0 + 256 ≤ 256; omega
  | 1 => show 256 * (k % 16) + 256 ≤ 4096; omega
/-- Column block `k` of the result. -/
abbrev colO (k : ℕ) : Rect S256x4096 := Rect.unit (s := S256x4096) ![0, 256 * (k % 16)] S256x256.size (colO_inb k)
/-- Row block `j` of a column block of the accumulator. -/
theorem rowB_inb (j : ℕ) : ∀ i, (![256 * (j % 4), 0] : Fin S1024x256.rank → ℕ) i + S256x256.size i ≤ S1024x256.size i := by
  intro i
  match i with
  | 0 => show 256 * (j % 4) + 256 ≤ 1024; omega
  | 1 => show 0 + 256 ≤ 256; omega
/-- Rows `256 j` to `256 j + 255` of a column block. -/
abbrev rowB (j : ℕ) : Rect S1024x256 := Rect.unit (s := S1024x256) ![256 * (j % 4), 0] S256x256.size (rowB_inb j)

/-! ## Semaphores and cells -/

/-- The barrier semaphore. -/
abbrev barS : Sem sig := (SemArray.scalar (sig.barrier 0 rfl) : Sems sig S_).sem
/-- The DMA semaphore `k` of array `j` (0: sends along y, 1: receives along y, 2: sends along z, 3: receives
    along z) of transfer `n`. -/
def dS (j n : ℕ) : DmaSem sig := ⟨3 + (12 * (j % 4) + (3 * (n % 4) + n / 4 % 3)), by show _ < 51; omega⟩

/-- Device `c`'s barrier cell. -/
abbrev barCell (c : Dev nD) : GSem nD τ sig := ((c : Thread nD τ), .reg barS)
/-- Device `c`'s cell of the DMA semaphore `dS j n`. -/
abbrev dCell (j : ℕ) (c : Dev nD) (n : ℕ) : GSem nD τ sig := ((c : Thread nD τ), .dma (dS j n))

/-- What a transfer of one slot credits. -/
abbrev N : ℕ := (sq (cS 0 0)).view.dmaCredit
/-- A transfer credits something. -/
theorem N_pos : 0 < N := View.dmaCredit_pos _ (by decide)

/-- Different arrays or transfers have different DMA semaphores. -/
theorem dS_inj {j j' n n' : ℕ} (hj : j < 4) (hj' : j' < 4) (hn : n < 12) (hn' : n' < 12) (h : dS j n = dS j' n') : j = j' ∧ n = n' := by
  have := congrArg Fin.val h; simp only [dS] at this; omega

/-! ## Contents

`X c`, `Y c`: device `c`'s blocks of the two operands, as the kernel's body finds them. -/

section Contents

variable (X Y : Dev nD → Vec F S1024x1024 .bf16)

/-- The row block the kernel adds at ring step `s`. -/
abbrev jr (c : Dev nD) (s : ℕ) : ℕ := c.val / 4 % 4 + (7 - s)
/-- Device `c`'s partial product, column block `st`. -/
def part (c : Dev nD) (st : ℕ) : Vec F S1024x256 .f32 := k0_pay2 (X c) (fun j => Y c ((colA st).emb j))
/-- Row block `j` of it. -/
def chunk (c : Dev nD) (st j : ℕ) : Vec F S256x256 .f32 := fun i => part X Y c st ((rowB j).emb i)
/-- What device `c` holds at ring step `s` for column block `st`: its own chunk added to what its left neighbour held a step
    before. At step 3 it is the finished chunk, reduced over `y`. -/
def run (st : ℕ) : ℕ → Dev nD → Vec F S1x1x256x256 .bf16
  | 0, c => k0_pay3 (chunk X Y c st (jr c 0))
  | s + 1, c => k0_pay12 (run st s (yL c)) (chunk X Y c st (jr c (s + 1)))

/-- The slot of the gather buffer in use at gather step `h`. -/
abbrev zq (c : Dev nD) (h : ℕ) : ℕ := (c.val % 4 + (4 - h)) % 4

/-- What the left neighbour along `z` holds at a step is what `c` holds at the next. -/
theorem zq_zL (c : Dev nD) (h : ℕ) (hh : h < 3) : zq (zL c) h = zq c (h + 1) := by
  simp only [zq, zL]; omega
/-- What the right neighbour along `z` holds at the next step is what `c` holds now. -/
theorem zq_zR (c : Dev nD) (h : ℕ) (hh : h < 3) : zq (zR c) (h + 1) = zq c h := by
  simp only [zq, zR]; omega

/-! ## The payments -/

/-- A slot of the reduce buffer of device `c` at contents `v`; of the gather buffer, at share `q`. -/
abbrev cOwn (c : Dev nD) (a b : ℕ) (v : Vec F S1x1x256x256 .bf16) : sProp 𝕄 := owns (c : Thread nD τ) (cS a b) fullShare v
/-- A slot of the gather buffer of device `c` at contents `v` and share `q`. -/
abbrev gOwn (c : Dev nD) (q : PosShare TreeShare) (a b : ℕ) (v : Vec F S1x1x256x256 .bf16) : sProp 𝕄 := owns (c : Thread nD τ) (gS a b) q v

/-- The slots of device `d` into which its left neighbour along `y` sends, with the news that their receive cells are open. -/
def landY (d : Dev nD) (n : ℕ) : sProp 𝕄 := iprop((∃ v, cOwn (F := F) d n (n / 4 + 1) v) ∗ reached ER (dCell 1 d n) 0)
/-- The slot of device `d` into which its left neighbour along `z` sends, with the news that its receive cell is open. -/
def landZ (d : Dev nD) (n : ℕ) : sProp 𝕄 := iprop((∃ v, gOwn (F := F) d fullShare n (zq d (n / 4 + 1)) v) ∗ reached ER (dCell 3 d n) 0)

/-- What the four signals to device `c`'s barrier cell hand over. -/
def barPay (c : Dev nD) (d : Fin 4) : sProp 𝕄 :=
  if d = 0 then bigSep (Finset.range 12) (landY (F := F) (yR c))
  else if d = 2 then bigSep (Finset.range 12) (landZ (F := F) (zR c)) else iprop(emp)

/-- What is paid to DMA cell `j` of transfer `n` of device `c`. -/
def dPay (c : Dev nD) (j n : ℕ) : sProp 𝕄 :=
  if j = 0 then cOwn c n (n / 4) (run X Y n (n / 4) c)
  else if j = 1 then cOwn c n (n / 4 + 1) (run X Y n (n / 4) (yL c))
  else if j = 2 then gOwn c fullShare.left n (zq c (n / 4)) (run X Y n 3 (atZ c (zq c (n / 4))))
  else gOwn c fullShare n (zq c (n / 4 + 1)) (run X Y n 3 (atZ c (zq c (n / 4 + 1))))

/-- The transfer a DMA semaphore's place within its array belongs to. -/
def nOf (i : ℕ) : ℕ := 4 * (i % 3) + i / 3

/-- One round: four duties of one unit at a barrier cell, one duty of a slot's credit at a DMA cell. -/
def sched : Rounds.Schedule (GSem nD τ sig) (Fin 4) 𝕄 where
  duties g r := if r = 0 ∧ g.1.2 = .tc then
      (match g.2 with
        | .reg _ => Finset.univ
        | .dma i => if 3 ≤ i.val then {0} else ∅)
    else ∅
  unitless _ := False
  amount g _ _ := match g.2 with | .reg _ => 1 | .dma _ => N
  payload g _ d := match g.2 with
    | .reg _ => barPay g.1.1 d
    | .dma i => dPay X Y g.1.1 ((i.val - 3) / 12) (nOf ((i.val - 3) % 12))
  amount_pos g _ _ _ := by
    match h : g.2 with
    | .reg _ => exact Nat.one_pos
    | .dma _ => exact N_pos

end Contents

end Cert.Ring
-- ==== Proof.Sched.lean ====
/-
  The schedule of `Proof/Common.lean` read cell by cell, the levels at which cells wait, and what each
  device owes.
-/
module

public import proofs.«01_k».proof.Proof.Common

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (X Y : Dev nD → Vec F S1024x1024 .bf16)

instance landY_storable (d : Dev nD) (n : ℕ) : BI.Storable (upEmb : UEmb _ 𝕄) (landY (F := F) d n) := by
  unfold landY; infer_instance
instance landZ_storable (d : Dev nD) (n : ℕ) : BI.Storable (upEmb : UEmb _ 𝕄) (landZ (F := F) d n) := by
  unfold landZ; infer_instance
instance barPay_storable (c : Dev nD) (d : Fin 4) : BI.Storable (upEmb : UEmb _ 𝕄) (barPay (F := F) c d) := by
  unfold barPay; (repeat' split) <;> infer_instance
instance dPay_storable (c : Dev nD) (j n : ℕ) : BI.Storable (upEmb : UEmb _ 𝕄) (dPay X Y c j n) := by
  unfold dPay; (repeat' split) <;> infer_instance
instance sched_storable (g : GSem nD τ sig) (r : ℕ) (d : Fin 4) :
    BI.Storable (upEmb : UEmb _ 𝕄) ((sched X Y).payload g r d) := by
  show BI.Storable upEmb (match g.2 with
    | .reg _ => barPay g.1.1 d
    | .dma i => dPay X Y g.1.1 ((i.val - 3) / 12) (nOf ((i.val - 3) % 12)))
  split <;> infer_instance

/-! ## The schedule at the cells -/

/-- A DMA semaphore's number gives back its array and transfer. -/
theorem dS_decode (j n : ℕ) (hj : j < 4) (hn : n < 12) : ((dS j n).val - 3) / 12 = j ∧ nOf (((dS j n).val - 3) % 12) = n := by
  have h : ∀ (j : Fin 4) (n : Fin 12), ((dS j n).val - 3) / 12 = j ∧ nOf (((dS j n).val - 3) % 12) = n := by decide
  exact h ⟨j, hj⟩ ⟨n, hn⟩

/-- A barrier cell has four duties. -/
theorem duties_bar (c : Dev nD) : (sched X Y).duties (barCell c) 0 = Finset.univ := by
  dsimp only [sched]; exact if_pos ⟨rfl, rfl⟩
/-- A DMA cell has one duty. -/
theorem duties_d (j : ℕ) (c : Dev nD) (n : ℕ) : (sched X Y).duties (dCell j c n) 0 = {0} := by
  dsimp only [sched]; rw [if_pos ⟨rfl, rfl⟩]; exact if_pos (Nat.le_add_right _ _)
/-- There is only one round. -/
theorem duties_later (g : GSem nD τ sig) : ∀ r, 1 ≤ r → (sched X Y).duties g r = ∅ := fun r hr => by
  dsimp only [sched]; exact if_neg fun h => by omega
/-- A duty at a barrier cell is one signal. -/
theorem amount_bar (c : Dev nD) (r : ℕ) (d : Fin 4) : (sched X Y).amount (barCell c) r d = 1 := rfl
/-- The duty at a DMA cell is one transfer's credit. -/
theorem amount_d (j : ℕ) (c : Dev nD) (n r : ℕ) (d : Fin 4) : (sched X Y).amount (dCell j c n) r d = N := rfl
/-- What a signal hands over. -/
theorem payload_bar (c : Dev nD) (r : ℕ) (d : Fin 4) : (sched X Y).payload (barCell c) r d = barPay c d := rfl
/-- What a transfer hands over. -/
theorem payload_d {j : ℕ} (hj : j < 4) (c : Dev nD) {n : ℕ} (hn : n < 12) (r : ℕ) (d : Fin 4) :
    (sched X Y).payload (dCell j c n) r d = dPay X Y c j n := by
  obtain ⟨h1, h2⟩ := dS_decode j n hj hn
  show dPay X Y c (((dS j n).val - 3) / 12) (nOf (((dS j n).val - 3) % 12)) = _
  rw [h1, h2]
/-- A barrier cell expects four. -/
theorem expect_bar (c : Dev nD) : (sched X Y).expect (barCell c) 0 = 4 := by
  unfold Schedule.expect Schedule.amountOf; rw [duties_bar]; rfl
/-- A DMA cell expects one transfer's credit. -/
theorem expect_d (j : ℕ) (c : Dev nD) (n : ℕ) : (sched X Y).expect (dCell j c n) 0 = N := by
  unfold Schedule.expect Schedule.amountOf; rw [duties_d, Finset.sum_singleton, amount_d]
/-- All that a DMA cell hands over is its one payload. -/
theorem rest_d {j : ℕ} (hj : j < 4) (c : Dev nD) {n : ℕ} (hn : n < 12) :
    bigSep ((sched X Y).duties (dCell j c n) 0 \ ∅) ((sched X Y).payload (dCell j c n) 0) = dPay X Y c j n := by
  rw [Finset.sdiff_empty, duties_d, bigSep_singleton, payload_d X Y hj c hn]
/-- What the barrier wait collects: the neighbours' slots. -/
theorem rest_bar (c : Dev nD) : bigSep ((sched X Y).duties (barCell c) 0 \ ∅) ((sched X Y).payload (barCell c) 0)
    ⊢ iprop(bigSep (Finset.range 12) (landY (F := F) (yR c)) ∗ bigSep (Finset.range 12) (landZ (F := F) (zR c))) := by
  rw [Finset.sdiff_empty, duties_bar]
  rw [show (Finset.univ : Finset (Fin 4)) = insert 0 (insert 2 {1, 3}) from by decide,
    bigSep_insert (by decide), bigSep_insert (by decide), payload_bar, payload_bar]
  unfold barPay
  rw [if_pos rfl, if_neg (by decide), if_pos rfl]
  exact sep_mono_right sep_elim_left

/-! ## Levels -/

/-- The level of a DMA cell: receives along y, then receives along z, in the program's order; everything else low. -/
def dLv (i : ℕ) : ℕ :=
  if (i - 3) / 12 = 1 then 2 + nOf ((i - 3) % 12) else if (i - 3) / 12 = 3 then 14 + nOf ((i - 3) % 12) else 0
/-- The levels in use: one at every cell of a TensorCore. -/
def L : GSem nD τ sig → Finset Unit := fun g => if g.1.2 = .tc then {()} else ∅
/-- The level of a cell: one at the barrier, `dLv` at a DMA semaphore. -/
def lv : GSem nD τ sig → Unit → ℕ := fun g _ => match g.2 with | .reg _ => 1 | .dma i => dLv i.val

/-- Every cell of a device carries a level. -/
theorem mem_L (c : Dev nD) (s : SemLoc sig) : () ∈ L ((c : Thread nD τ), s) := by
  unfold L; rw [if_pos rfl]; exact Finset.mem_singleton_self _
/-- The barrier's level is one. -/
theorem lv_bar (c : Dev nD) : lv (barCell c) () = 1 := rfl
/-- Receive `n` along `y` has level `2 + n`. -/
theorem lv_1 (c : Dev nD) (n : ℕ) (hn : n < 12) : lv (dCell 1 c n) () = 2 + n := by
  obtain ⟨h1, h2⟩ := dS_decode 1 n (by decide) hn
  show dLv (dS 1 n).val = _
  unfold dLv; rw [if_pos h1, h2]
/-- Receive `n` along `z` has level `14 + n`. -/
theorem lv_3 (c : Dev nD) (n : ℕ) (hn : n < 12) : lv (dCell 3 c n) () = 14 + n := by
  obtain ⟨h1, h2⟩ := dS_decode 3 n (by decide) hn
  show dLv (dS 3 n).val = _
  unfold dLv; rw [if_neg (by omega), if_pos h1, h2]

/-! ## Debts -/

/-- What device `c` owes once `a` transfers along y and `b` along z are on their way. -/
def due (c : Dev nD) (a b : ℕ) : CellTallies nD τ sig Unit :=
  (∑ n ∈ Finset.Ico a 12, tallyAt (dCell 1 (yR c) n) () N) + ∑ n ∈ Finset.Ico b 12, tallyAt (dCell 3 (zR c) n) () N

/-- The numbers from `a` to eleven: `a` and those after it. -/
theorem ico_step {a : ℕ} (h : a < 12) : Finset.Ico a 12 = insert a (Finset.Ico (a + 1) 12) := by
  ext x; simp only [Finset.mem_insert, Finset.mem_Ico]; omega
/-- `a` is not among the numbers after it. -/
theorem ico_fresh (a : ℕ) : a ∉ Finset.Ico (a + 1) 12 := fun h => by
  have := (Finset.mem_Ico.mp h).1; omega

/-- The next transfer along `y` taken off what is owed. -/
theorem due_stepY (c : Dev nD) (a b : ℕ) (h : a < 12) : due c a b = due c (a + 1) b + tallyAt (dCell 1 (yR c) a) () N := by
  unfold due; rw [ico_step h, Finset.sum_insert (ico_fresh a), add_comm (tallyAt _ _ _), add_right_comm]
/-- The next transfer along `z` taken off what is owed. -/
theorem due_stepZ (c : Dev nD) (a b : ℕ) (h : b < 12) : due c a b = due c a (b + 1) + tallyAt (dCell 3 (zR c) b) () N := by
  unfold due; rw [ico_step h, Finset.sum_insert (ico_fresh b), add_comm (tallyAt _ _ _), ← add_assoc]
/-- With all sent, nothing is owed. -/
theorem due_end (c : Dev nD) : due c 12 12 = 0 := by
  unfold due; rw [Finset.Ico_self]; simp

/-- What device `c` owes at the start: a unit to each neighbour's barrier cell, and every transfer. -/
def O₀ (c : Dev nD) : CellTallies nD τ sig Unit :=
  due c 0 0 + tallyAt (barCell (zR c)) () 1 + tallyAt (barCell (zL c)) () 1 + tallyAt (barCell (yR c)) () 1
    + tallyAt (barCell (yL c)) () 1

/-- A cell device `c` owes to is a receive cell not yet sent to. -/
theorem due_pos (c : Dev nD) (a b : ℕ) (g : GSem nD τ sig) (u : Unit) (h : 0 < due c a b g u) :
    (∃ n, a ≤ n ∧ n < 12 ∧ g = dCell 1 (yR c) n) ∨ (∃ n, b ≤ n ∧ n < 12 ∧ g = dCell 3 (zR c) n) := by
  by_contra hn
  push Not at hn
  refine absurd h (Nat.not_lt.mpr (Nat.le_zero.mpr ?_))
  unfold due
  rw [Pi.add_apply, Finset.sum_apply, Finset.sum_apply, Finsupp.add_apply, Finsupp.finset_sum_apply, Finsupp.finset_sum_apply,
    Finset.sum_eq_zero (s := Finset.Ico a 12), Finset.sum_eq_zero (s := Finset.Ico b 12)]
  · rfl
  · intro n hm
    rw [tallyAt_apply, if_neg]
    intro he
    exact hn.2 n (Finset.mem_Ico.mp hm).1 (Finset.mem_Ico.mp hm).2 he.1
  · intro n hm
    rw [tallyAt_apply, if_neg]
    intro he
    exact hn.1 n (Finset.mem_Ico.mp hm).1 (Finset.mem_Ico.mp hm).2 he.1

/-- What is owed lies at the level of the next transfer along `y` or of the next along `z`, or above. -/
theorem due_lv (c : Dev nD) (a b : ℕ) (g : GSem nD τ sig) (u : Unit) (h : 0 < due c a b g u) : () ∈ L g ∧ (2 + a ≤ lv g u ∨ 14 + b ≤ lv g u) := by
  rcases due_pos c a b g u h with ⟨n, h1, h2, rfl⟩ | ⟨n, h1, h2, rfl⟩
  · exact ⟨mem_L _ _, .inl (by cases u; rw [lv_1 _ _ h2]; omega)⟩
  · exact ⟨mem_L _ _, .inr (by cases u; rw [lv_3 _ _ h2]; omega)⟩

/-- Device `c` may wait at a cell whose level is below those of everything it still owes. -/
theorem mayWait (c : Dev nD) (sm : SemLoc sig) (k a b : ℕ) (hk : lv ((c : Thread nD τ), sm) () = k) (ha : k < 2 + a) (hb : k < 14 + b) :
    (levAts L lv : sProp 𝕄) ⊢ MayWait (c : Thread nD τ) sm () (due c a b) :=
  MayOwe.of_cut (L := L) (lev := lv) k (fun p hp => by
      rw [Finset.mem_singleton] at hp; subst hp; exact mem_L _ _)
    (fun g u hg => by cases u; exact (due_lv c a b g () hg).1)
    (fun p hp => by rw [Finset.mem_singleton] at hp; subst hp; exact hk.le)
    (fun g u hg => by rcases (due_lv c a b g u hg).2 with h | h <;> omega)

end Cert.Ring
-- ==== Proof.Steps.lean ====
/-
  One operation at a time: loads and stores through parts of a buffer that is owned at known contents, a
  transfer of one slot, and the bookkeeping of a row of steps taken in order.
-/
module

public import proofs.«01_k».proof.Proof.Sched

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- No loop variants are needed. -/
abbrev 𝒱₀ : Variants := Variants.none

/-- A program of device `c`'s kernel meets `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

section Mem

variable (c : Dev nD) {s : Shape} {e : EltTy} (M : Memref sig .tc .vmem s e)

/-- A load through a rectangle of a memref owned at `f` reads `f` there. -/
theorem wp_ld_sub {α : Type} {Q : α → sProp 𝕄} (q : PosShare TreeShare) (f : s.Idx → Elt F e) {r : Rect s} {hl : M.view.LoadsAt r.toLoadRect}
    {k : (r.shape.Idx → Elt F e) → Prog (TpuEff nD τ sig (Elt F) Λ₀ .tc) α} :
    owns (c : Thread nD τ) M q f
      ⊢ iprop((owns (c : Thread nD τ) M q f -∗ wpc c (k fun j => f (r.emb j)) Q)
        -∗ wpc c (.op (.load M r.toLoadRect hl) k) Q) := by
  unfold owns
  iintro ⟨%g, %hg, H⟩ Hk
  iapply (wp_load 𝒱₀ (c : Thread nD τ) none Set.univ (m := M) (M.view.setOn_subset_set _)) $$ H
  iintro H
  rw [show M.view.readAt (Elt F) r.toLoadRect g = fun j => f (r.emb j) from by subst hg; rfl]
  iapply Hk
  iexists g; isplitr; · ipureintro; exact hg
  iexact H

/-- A load through the rectangle of an owned slice reads the slice's contents. -/
theorem wp_ld {α : Type} {Q : α → sProp 𝕄} {off off' size : Fin s.rank → ℕ} {h : ∀ a, off a + size a ≤ s.size a} {h' : ∀ a, off' a + size a ≤ s.size a}
    (hoff : off = off') (q : PosShare TreeShare) (v : (Rect.unit off' size h').shape.Idx → Elt F e)
    {hs : ∀ a, (Rect.unit off' size h').stride a = 1} {hl : M.view.LoadsAt (Rect.unit off size h).toLoadRect}
    {k : ((Rect.unit off size h).shape.Idx → Elt F e) → Prog (TpuEff nD τ sig (Elt F) Λ₀ .tc) α} :
    owns (c : Thread nD τ) (M.slice (Rect.unit off' size h') hs) q v
      ⊢ iprop((owns (c : Thread nD τ) (M.slice (Rect.unit off' size h') hs) q v -∗ wpc c (k v) Q)
        -∗ wpc c (.op (.load M (Rect.unit off size h).toLoadRect hl) k) Q) := by
  subst hoff
  unfold owns
  iintro ⟨%g, %hg, H⟩ Hk
  iapply (wp_load_rect 𝒱₀ (c : Thread nD τ) none Set.univ (m := M) (r := Rect.unit off size h) (Finset.Subset.refl _)) $$ H
  iintro H
  rw [show (M.access (Rect.unit off size h)).read (Elt F) g = v from hg]
  iapply Hk
  iexists g; isplitr; · ipureintro; exact hg
  iexact H

/-- A store through the rectangle of an owned slice replaces the slice's contents. -/
theorem wp_st {α : Type} {Q : α → sProp 𝕄} {off off' size : Fin s.rank → ℕ} {h : ∀ a, off a + size a ≤ s.size a} {h' : ∀ a, off' a + size a ≤ s.size a}
    (hoff : off = off') (v : (Rect.unit off' size h').shape.Idx → Elt F e) {w : (Rect.unit off size h).shape.Idx → Elt F e}
    {hs : ∀ a, (Rect.unit off' size h').stride a = 1} {hx : (M.access (Rect.unit off size h)).Stores Finset.univ}
    {hm : (Finset.univ : Finset (Rect.unit off size h).shape.Idx) = Finset.univ ∨ ∀ a, (Rect.unit off size h).stride a = 1}
    {k : PUnit → Prog (TpuEff nD τ sig (Elt F) Λ₀ .tc) α} :
    owns (c : Thread nD τ) (M.slice (Rect.unit off' size h') hs) fullShare v
      ⊢ iprop((owns (c : Thread nD τ) (M.slice (Rect.unit off' size h') hs) fullShare w -∗ wpc c (k ⟨⟩) Q)
        -∗ wpc c (.op (.store M (Rect.unit off size h) w Finset.univ hx hm) k) Q) := by
  subst hoff
  unfold owns
  iintro ⟨%g, -, H⟩ Hk
  iapply (wp_store 𝒱₀ (c : Thread nD τ) none Set.univ (m := M) (r := Rect.unit off size h) (Mk := Finset.univ) (View.setOn_subset_set _ _)) $$ H
  iintro H
  iapply Hk
  iexists ((M.access (Rect.unit off size h)).write (Elt F) g w Finset.univ)
  isplitr; · ipureintro; exact View.read_write_univ _ _
  iexact H

/-- A store through a rectangle of an owned memref puts the stored value over its contents. -/
theorem wp_st_sub {α : Type} {Q : α → sProp 𝕄} (f : s.Idx → Elt F e) {r : Rect s} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} :
    owns (c : Thread nD τ) M fullShare f
      ⊢ iprop((owns (c : Thread nD τ) M fullShare (r.overlay f w) -∗ wpc c (k ⟨⟩) Q)
        -∗ wpc c (.op (.store M r w Finset.univ hx hm) k) Q) := by
  unfold owns
  iintro ⟨%g, %hg, H⟩ Hk
  iapply (wp_store 𝒱₀ (c : Thread nD τ) none Set.univ (m := M) (r := r) (Mk := Finset.univ) (View.setOn_subset_set _ _ |>.trans (View.set_slice_subset _ _))) $$ H
  iintro H
  iapply Hk
  iexists ((M.access r).write (Elt F) g w Finset.univ)
  isplitr
  · ipureintro
    funext j
    by_cases hj : j ∈ r.set
    · obtain ⟨i, rfl⟩ := r.exists_idx_of_mem hj
      refine (View.read_slice_write_emb (v := M.view) r g w (Finset.mem_univ i)).trans ?_
      exact (Rect.overlay_emb r f w i).symm
    · refine (View.read_slice_write_of_not_mem (v := M.view) r g w Finset.univ (by rw [Rect.map_emb_univ]; exact hj)).trans ?_
      rw [Rect.overlay_of_not_mem _ _ _ hj, hg]
  iexact H

/-- A memref of which the first `k` rectangles of a family are known to hold `G`. -/
def cols (r : ℕ → Rect s) (k : ℕ) (G : (t : ℕ) → (r t).shape.Idx → Elt F e) : sProp 𝕄 :=
  iprop(∃ f, ⌜∀ t < k, ∀ j, f ((r t).emb j) = G t j⌝ ∗ owns (c : Thread nD τ) M fullShare f)

/-- A load of elements that lie in a known rectangle. -/
theorem wp_ld_cols {α : Type} {Q : α → sProp 𝕄} {r : ℕ → Rect s} {k : ℕ} {G : (t : ℕ) → (r t).shape.Idx → Elt F e} {r' : Rect s} {hl : M.view.LoadsAt r'.toLoadRect}
    {p : (r'.shape.Idx → Elt F e) → Prog (TpuEff nD τ sig (Elt F) Λ₀ .tc) α} (t : ℕ) (ht : t < k)
    (φ : r'.shape.Idx → (r t).shape.Idx) (hφ : ∀ j, r'.emb j = (r t).emb (φ j)) :
    cols c M r k G
      ⊢ iprop((cols c M r k G -∗ wpc c (p fun j => G t (φ j)) Q)
        -∗ wpc c (.op (.load M r'.toLoadRect hl) p) Q) := by
  unfold cols
  iintro ⟨%f, %hf, H⟩ Hk
  iapply (wp_ld_sub c M fullShare f) $$ H
  iintro H
  rw [show (fun j => f (r'.emb j)) = fun j => G t (φ j) from funext fun j => by rw [hφ j, hf t ht]]
  iapply Hk
  iexists f; isplitr; · ipureintro; exact hf
  iexact H

/-- A load whose value is not needed. -/
theorem wp_ld_dead {α : Type} {Q : α → sProp 𝕄} {r : ℕ → Rect s} {k : ℕ} {G : (t : ℕ) → (r t).shape.Idx → Elt F e} {r' : Rect s} {hl : M.view.LoadsAt r'.toLoadRect}
    {p : Prog (TpuEff nD τ sig (Elt F) Λ₀ .tc) α} :
    cols c M r k G
      ⊢ iprop((cols c M r k G -∗ wpc c p Q) -∗ wpc c (.op (.load M r'.toLoadRect hl) fun _ => p) Q) := by
  unfold cols
  iintro ⟨%f, %hf, H⟩ Hk
  iapply (wp_ld_sub c M fullShare f) $$ H
  iintro H
  iapply Hk
  iexists f; isplitr; · ipureintro; exact hf
  iexact H

/-- A store of the next rectangle of the family. -/
theorem wp_st_cols {α : Type} {Q : α → sProp 𝕄} {r : ℕ → Rect s} {k : ℕ} {G : (t : ℕ) → (r t).shape.Idx → Elt F e} {hx : (M.access (r k)).Stores Finset.univ}
    {hm : (Finset.univ : Finset (r k).shape.Idx) = Finset.univ ∨ ∀ a, (r k).stride a = 1}
    {p : PUnit → Prog (TpuEff nD τ sig (Elt F) Λ₀ .tc) α}
    (hd : ∀ t < k, Disjoint (r t).set (r k).set) :
    cols c M r k G
      ⊢ iprop((cols c M r (k + 1) G -∗ wpc c (p ⟨⟩) Q)
        -∗ wpc c (.op (.store M (r k) (G k) Finset.univ hx hm) p) Q) := by
  unfold cols
  iintro ⟨%f, %hf, H⟩ Hk
  iapply (wp_st_sub c M f) $$ H
  iintro H
  iapply Hk
  iexists ((r k).overlay f (G k)); isplitr
  · ipureintro
    intro t ht j
    rcases Nat.lt_succ_iff_lt_or_eq.mp ht with ht | rfl
    · rw [Rect.overlay_of_not_mem, hf t ht]
      exact Finset.disjoint_left.mp (hd t ht) ((r t).map_emb_univ ▸ Finset.mem_map_of_mem _ (Finset.mem_univ j))
    · rw [Rect.overlay_emb]
  iexact H

end Mem

/-! ## A row of steps taken in order -/

/-- The first `k` of `n` steps are done (`B`), the others are to do (`A`). -/
def prog (n k : ℕ) (A B : ℕ → sProp 𝕄) : sProp 𝕄 := bigSep (Finset.range n) fun i => if i < k then B i else A i

/-- With no step done, all are to do. -/
theorem prog_zero (n : ℕ) (A B : ℕ → sProp 𝕄) : prog (F := F) n 0 A B = bigSep (Finset.range n) A :=
  bigSep_congr fun i _ => if_neg (Nat.not_lt_zero i)
/-- With every step done, none is to do. -/
theorem prog_all (n : ℕ) (A B : ℕ → sProp 𝕄) : prog (F := F) n n A B = bigSep (Finset.range n) B :=
  bigSep_congr fun i hi => if_pos (Finset.mem_range.mp hi)
/-- The next step's part comes out; once it is done it goes back in. -/
theorem prog_step {n k : ℕ} (h : k < n) (A B : ℕ → sProp 𝕄) :
    prog (F := F) n k A B ⊢ iprop(A k ∗ (B k -∗ prog n (k + 1) A B)) := by
  have e0 : prog (F := F) n k A B = iprop(A k ∗ bigSep ((Finset.range n).erase k) fun i => if i < k then B i else A i) := by
    unfold prog; rw [bigSep_erase (Finset.mem_range.mpr h), if_neg (lt_irrefl k)]; rfl
  have e1 : prog (F := F) n (k + 1) A B = iprop(B k ∗ bigSep ((Finset.range n).erase k) fun i => if i < k + 1 then B i else A i) := by
    unfold prog; rw [bigSep_erase (Finset.mem_range.mpr h), if_pos (Nat.lt_succ_self k)]; rfl
  rw [e0, e1, bigSep_congr (Φ := fun i => if i < k + 1 then B i else A i) (Ψ := fun i => if i < k then B i else A i) (s := (Finset.range n).erase k)
    fun i hi => by
      have hne := (Finset.mem_erase.mp hi).1
      by_cases hik : i < k
      · rw [if_pos hik, if_pos (by omega)]
      · rw [if_neg hik, if_neg (by omega)]]
  iintro ⟨HA, H⟩
  isplitl [HA]; · iexact HA
  iintro HB
  isplitl [HB]; · iexact HB
  iexact H
/-- One member of a family, and the rest of the family waiting for it. -/
theorem pick {I : Type} [DecidableEq I] {S : Finset I} {i : I} (h : i ∈ S) (A : I → sProp 𝕄) :
    bigSep S A ⊢ iprop(A i ∗ (A i -∗ bigSep S A)) := by
  have e : bigSep S A = iprop(A i ∗ bigSep (S.erase i) A) := bigSep_erase h
  rw [e]
  iintro ⟨HA, H⟩
  isplitl [HA]; · iexact HA
  iintro HB
  isplitl [HB]; · iexact HB
  iexact H

/-! ## A transfer of one slot -/

/-- The elements of a slot, as a transfer names them, are the slot's. -/
theorem sq_set (M : Memref sig .tc .vmem S1x1x256x256 .bf16) : (sq M).view.set = M.view.set := View.set_reshape _ _

/-- What a slot reads after a whole slot was written over it through the transfer's view. -/
theorem read_landed (src dst : Memref sig .tc .vmem S1x1x256x256 .bf16) (fs : src.view.ty.Contents (Elt F)) (fd : dst.view.ty.Contents (Elt F)) :
    dst.view.read (Elt F) ((sq dst).view.write (Elt F) fd ((sq src).view.read (Elt F) fs) Finset.univ) = src.view.read (Elt F) fs := by
  have h := View.read_write_univ (v := (sq dst).view) fd ((sq src).view.read (Elt F) fs)
  funext i
  have hi := congrFun h ((Shape.reshapeEquiv (squeezes_S1x1x256x256_S256x256).numel_eq).symm i)
  have e (M : Memref sig .tc .vmem S1x1x256x256 .bf16) (f : M.view.ty.Contents (Elt F)) (j : S256x256.Idx) :
      (sq M).view.read (Elt F) f j = M.view.read (Elt F) f (Shape.reshapeEquiv (squeezes_S1x1x256x256_S256x256).numel_eq j) := rfl
  rw [e, e, Equiv.apply_symm_apply] at hi
  exact hi

variable (X Y : Dev nD → Vec F S1024x1024 .bf16)

/-- A transfer of an owned slot at contents `v` into an owned slot of device `c'`: the source's payment is the source at `v`, the
    target's the target at `v`. -/
theorem wp_send_slot (c c' : Dev nD) {src dst : Memref sig .tc .vmem S1x1x256x256 .bf16} {sS rS : DmaSem sig} (q : PosShare TreeShare)
    (v : Vec F S1x1x256x256 .bf16) {κ₁ κ₂ : ℕ} {α : Type} {Q : α → sProp 𝕄}
    {hsc : (sq dst).view.ref.isScScratch = false} {hsrc : (sq src).view.WordExact} {hdst : (sq dst).view.WordExact}
    {hsem : DmaTarget.Typed .vmem (.dma rS) (.remote (Dev.tc c' : Thread nD τ) (sq dst) (.dma sS) hsc)}
    {k : PUnit → Prog (TpuEff nD τ sig (Elt F) Λ₀ .tc) α}
    (hd₁ : (0 : Fin 4) ∈ (sched X Y).duties ((c : Thread nD τ), .dma sS) 0) (hd₂ : (0 : Fin 4) ∈ (sched X Y).duties ((c' : Thread nD τ), .dma rS) 0)
    (hN : (sq dst).view.dmaCredit = N) (O : CellTallies nD τ sig Unit) {O' : CellTallies nD τ sig Unit} {W : Waits sig Unit}
    (hO : O' = O + tallyAt ((c' : Thread nD τ), .dma rS) () N)
    (hpay₁ : owns (c : Thread nD τ) src q v ⊢ (sched X Y).payload ((c : Thread nD τ), .dma sS) 0 0)
    (hpay₂ : owns (c' : Thread nD τ) dst fullShare v ⊢ (sched X Y).payload ((c' : Thread nD τ), .dma rS) 0 0) :
    iprop(cellInv ER (sched X Y) κ₁ ((c : Thread nD τ), .dma sS) ∗ cellInv ER (sched X Y) κ₂ ((c' : Thread nD τ), .dma rS)
        ∗ owns (c : Thread nD τ) src q v ∗ (∃ w, owns (c' : Thread nD τ) dst fullShare w) ∗ owes (c : Thread nD τ) O' W
        ∗ dutyTok ER ((c : Thread nD τ), .dma sS) 0 0 ∗ reached ER ((c : Thread nD τ), .dma sS) 0
        ∗ dutyTok ER ((c' : Thread nD τ), .dma rS) 0 0 ∗ reached ER ((c' : Thread nD τ), .dma rS) 0)
      ⊢ iprop(((cred (tallyAt ((c : Thread nD τ), .dma sS) () N) ∗ owes (c : Thread nD τ) O W) -∗ wpc c (k ⟨⟩) Q)
        -∗ wpc c (.op (.enqueueDma (sq src) (.remote (Dev.tc c' : Thread nD τ) (sq dst) (.dma sS) hsc) (.dma rS) hsrc hdst hsem) k) Q) := by
  have e1 := sq_set src
  have e2 := sq_set dst
  unfold owns at hpay₁ hpay₂ ⊢
  iintro ⟨Hi1, Hi2, ⟨%f, %hf, Hs⟩, ⟨%w, %fd, -, Hd⟩, HO, Ht1, Hr1, Ht2, Hr2⟩
  have p1 : iprop((sq src).view.loc (c : Thread nD τ) ↦[(sq src).view.set]{q} f) ⊢ (sched X Y).payload ((c : Thread nD τ), .dma sS) 0 0 := by
    rw [e1]
    refine BI.Entails.trans (Q := iprop(∃ f, ⌜src.view.read (Elt F) f = v⌝ ∗ src.view.loc (c : Thread nD τ) ↦[src.view.set]{q} f)) ?_ hpay₁
    show iprop((sq src).view.loc (c : Thread nD τ) ↦[src.view.set]{q} f) ⊢ iprop(∃ f, ⌜src.view.read (Elt F) f = v⌝ ∗ src.view.loc (c : Thread nD τ) ↦[src.view.set]{q} f)
    iintro H; iexists f; isplitr; · ipureintro; exact hf
    iexact H
  have p2 : iprop((sq dst).view.loc (c' : Thread nD τ) ↦[(sq dst).view.set]{fullShare}
      ((sq dst).view.write (Elt F) fd ((sq src).view.read (Elt F) f) Finset.univ)) ⊢ (sched X Y).payload ((c' : Thread nD τ), .dma rS) 0 0 := by
    rw [e2]
    refine BI.Entails.trans (Q := iprop(∃ f, ⌜dst.view.read (Elt F) f = v⌝ ∗ dst.view.loc (c' : Thread nD τ) ↦[dst.view.set]{fullShare} f)) ?_ hpay₂
    show iprop((sq dst).view.loc (c' : Thread nD τ) ↦[dst.view.set]{fullShare}
      ((sq dst).view.write (Elt F) fd ((sq src).view.read (Elt F) f) Finset.univ)) ⊢ iprop(∃ f, ⌜dst.view.read (Elt F) f = v⌝ ∗ dst.view.loc (c' : Thread nD τ) ↦[dst.view.set]{fullShare} f)
    iintro H; iexists ((sq dst).view.write (Elt F) fd ((sq src).view.read (Elt F) f) Finset.univ)
    isplitr; · ipureintro; rw [read_landed, hf]
    iexact H
  iapply (Rounds.wp_send_pointsTo 𝒱₀ ER (sched X Y) (c : Thread nD τ) none (c' := (Dev.tc c' : Thread nD τ)) (src := sq src) (dst := sq dst)
    (κ₁ := κ₁) (κ₂ := κ₂) (r₁ := 0) (r₂ := 0) (d₁ := 0) (d₂ := 0) (q := q) (fs := f) (fd := fd) hd₁ hd₂ () () N hN rfl rfl O hO (W := W) p1 p2)
  rw [e1, e2]
  isplitl [Hi1]; · iexact Hi1
  isplitl [Hi2]; · iexact Hi2
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

end Cert.Ring
-- ==== Proof.Moves.lean ====
/-
  The moves of a device's kernel against its state: how far each row of transfers has come. A transfer sent, a
  transfer received, a sent transfer's buffer taken back.
-/
module

public import proofs.«01_k».proof.Proof.Steps

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (X Y : Dev nD → Vec F S1024x1024 .bf16) (K : GSem nD τ sig → ℕ)

/-! ## The cells' invariants -/

/-- DMA cell `i` of a device. -/
abbrev tCell (p : Dev nD × Fin 48) : GSem nD τ sig := ((p.1 : Thread nD τ), .dma (⟨3 + p.2.val, by have := p.2.isLt; show _ < 51; omega⟩ : DmaSem sig))
/-- Each device's barrier cell. -/
def barEmb : Dev nD ↪ GSem nD τ sig := ⟨barCell, fun a b h => by
  have := congrArg (fun g : GSem nD τ sig => g.1.1) h; exact this⟩
/-- Each device's 48 DMA cells. -/
def tEmb : Dev nD × Fin 48 ↪ GSem nD τ sig := ⟨tCell, fun a b h => by
  have h1 : a.1 = b.1 := congrArg (fun g : GSem nD τ sig => g.1.1) h
  have h2 := (Prod.mk.inj h).2
  have h3 : 3 + a.2.val = 3 + b.2.val := congrArg Fin.val (SemLoc.dma.inj h2)
  exact Prod.ext h1 (Fin.ext (by omega))⟩
/-- All barrier cells. -/
def barCells : Finset (GSem nD τ sig) := Finset.univ.map barEmb
/-- All DMA cells. -/
def tCells : Finset (GSem nD τ sig) := Finset.univ.map tEmb

/-- The place of transfer `n`'s semaphore of array `j` among the DMA cells. -/
def ix (j n : ℕ) : Fin 48 := ⟨12 * (j % 4) + (3 * (n % 4) + n / 4 % 3), by omega⟩
/-- The DMA cell at the place of array `j` and transfer `n`. -/
theorem tCell_ix (c : Dev nD) (j n : ℕ) : tCell (c, ix j n) = dCell j c n := rfl

/-- Every cell's invariant. -/
def invs : sProp 𝕄 := bigSep (barCells ∪ tCells) fun g => cellInv ER (sched X Y) (K g) g
instance invs_persistent : BI.Persistent (invs X Y K) := by unfold invs; infer_instance

/-- The invariants hold the one of `c`'s barrier cell. -/
theorem inv_bar (c : Dev nD) : invs X Y K ⊢ cellInv ER (sched X Y) (K (barCell c)) (barCell c) :=
  bigSep_elim (Finset.mem_union_left _ (Finset.mem_map_of_mem barEmb (Finset.mem_univ c)))
/-- The invariants hold the one of `c`'s DMA cell of array `j` and transfer `n`. -/
theorem inv_d (j : ℕ) (c : Dev nD) (n : ℕ) : invs X Y K ⊢ cellInv ER (sched X Y) (K (dCell j c n)) (dCell j c n) :=
  bigSep_elim (Finset.mem_union_right _ (Finset.mem_map_of_mem tEmb (Finset.mem_univ (c, ix j n))))

/-! ## The state -/

/-- Transfer `n` along `y` before it is sent: its tokens, its place at the send cell, the landing slot at the right. -/
def todoY (c : Dev nD) (n : ℕ) : sProp 𝕄 :=
  iprop(dutyTok ER (dCell 0 c n) 0 0 ∗ dutyTok ER (dCell 1 (yR c) n) 0 0 ∗ reached ER (dCell 0 c n) 0 ∗ atPos ER (dCell 0 c n) 0 ∅ 0 ∗ landY (F := F) (yR c) n)
/-- Transfer `n` along `y` on its way: the credit to wait for its leaving. -/
def goneY (c : Dev nD) (n : ℕ) : sProp 𝕄 := iprop(atPos ER (dCell 0 c n) 0 ∅ 0 ∗ cred (tallyAt (dCell 0 c n) () N))
/-- Transfer `n` along `y` not yet received: the credit to wait for it. -/
def waitY (c : Dev nD) (n : ℕ) : sProp 𝕄 := iprop(atPos ER (dCell 1 c n) 0 ∅ 0 ∗ cred (tallyAt (dCell 1 c n) () N))
/-- Transfer `n` along `y` received: its receive cell is done with. -/
def gotY (c : Dev nD) (n : ℕ) : sProp 𝕄 := semVal (dCell 1 c n) 0
/-- Transfer `n` along `y` known to have left: the chunk it sent is back. -/
def backY (c : Dev nD) (n : ℕ) : sProp 𝕄 := iprop(semVal (dCell 0 c n) 0 ∗ cOwn c n (n / 4) (run X Y n (n / 4) c))
/-- Transfer `n` along `z` before it is sent. -/
def todoZ (c : Dev nD) (n : ℕ) : sProp 𝕄 :=
  iprop(dutyTok ER (dCell 2 c n) 0 0 ∗ dutyTok ER (dCell 3 (zR c) n) 0 0 ∗ reached ER (dCell 2 c n) 0 ∗ atPos ER (dCell 2 c n) 0 ∅ 0 ∗ landZ (F := F) (zR c) n)
/-- What device `c` gathered at gather step `n / 4` for column block `n`. -/
abbrev gVal (c : Dev nD) (n : ℕ) : Vec F S1x1x256x256 .bf16 := run X Y n 3 (atZ c (zq c (n / 4)))
/-- Transfer `n` along `z` on its way: the credit to wait for its leaving, and half of the slot that is sent. -/
def goneZ (c : Dev nD) (n : ℕ) : sProp 𝕄 :=
  iprop(atPos ER (dCell 2 c n) 0 ∅ 0 ∗ cred (tallyAt (dCell 2 c n) () N) ∗ gOwn c fullShare.right n (zq c (n / 4)) (gVal X Y c n))
/-- Transfer `n` along `z` not yet received: the credit to wait for it. -/
def waitZ (c : Dev nD) (n : ℕ) : sProp 𝕄 := iprop(atPos ER (dCell 3 c n) 0 ∅ 0 ∗ cred (tallyAt (dCell 3 c n) () N))
/-- Transfer `n` along `z` received: its receive cell is done with. -/
def gotZ (c : Dev nD) (n : ℕ) : sProp 𝕄 := semVal (dCell 3 c n) 0
/-- Transfer `n` along `z` known to have left: the slot it sent is whole again. -/
def backZ (c : Dev nD) (n : ℕ) : sProp 𝕄 := iprop(semVal (dCell 2 c n) 0 ∗ gOwn c fullShare n (zq c (n / 4)) (gVal X Y c n))

/-- `todoY` spelt out. -/
theorem todoY_eq (c : Dev nD) (n : ℕ) : todoY (F := F) c n = iprop(dutyTok ER (dCell 0 c n) 0 0 ∗ dutyTok ER (dCell 1 (yR c) n) 0 0
    ∗ reached ER (dCell 0 c n) 0 ∗ atPos ER (dCell 0 c n) 0 ∅ 0 ∗ ((∃ v, cOwn (F := F) (yR c) n (n / 4 + 1) v) ∗ reached ER (dCell 1 (yR c) n) 0)) := rfl
/-- `todoZ` spelt out. -/
theorem todoZ_eq (c : Dev nD) (n : ℕ) : todoZ (F := F) c n = iprop(dutyTok ER (dCell 2 c n) 0 0 ∗ dutyTok ER (dCell 3 (zR c) n) 0 0
    ∗ reached ER (dCell 2 c n) 0 ∗ atPos ER (dCell 2 c n) 0 ∅ 0 ∗ ((∃ v, gOwn (F := F) (zR c) fullShare n (zq (zR c) (n / 4 + 1)) v) ∗ reached ER (dCell 3 (zR c) n) 0)) := rfl
/-- `goneY` spelt out. -/
theorem goneY_eq (c : Dev nD) (n : ℕ) : goneY (F := F) c n = iprop(atPos ER (dCell 0 c n) 0 ∅ 0 ∗ cred (tallyAt (dCell 0 c n) () N)) := rfl
/-- `goneZ` spelt out. -/
theorem goneZ_eq (c : Dev nD) (n : ℕ) : goneZ X Y c n
    = iprop(atPos ER (dCell 2 c n) 0 ∅ 0 ∗ cred (tallyAt (dCell 2 c n) () N) ∗ gOwn c fullShare.right n (zq c (n / 4)) (gVal X Y c n)) := rfl
/-- `waitY` spelt out. -/
theorem waitY_eq (c : Dev nD) (n : ℕ) : waitY (F := F) c n = iprop(atPos ER (dCell 1 c n) 0 ∅ 0 ∗ cred (tallyAt (dCell 1 c n) () N)) := rfl
/-- `waitZ` spelt out. -/
theorem waitZ_eq (c : Dev nD) (n : ℕ) : waitZ (F := F) c n = iprop(atPos ER (dCell 3 c n) 0 ∅ 0 ∗ cred (tallyAt (dCell 3 c n) () N)) := rfl
/-- `gotY` spelt out. -/
theorem gotY_eq (c : Dev nD) (n : ℕ) : gotY (F := F) c n = semVal (dCell 1 c n) 0 := rfl
/-- `gotZ` spelt out. -/
theorem gotZ_eq (c : Dev nD) (n : ℕ) : gotZ (F := F) c n = semVal (dCell 3 c n) 0 := rfl
/-- `backY` spelt out. -/
theorem backY_eq (c : Dev nD) (n : ℕ) : backY X Y c n = iprop(semVal (dCell 0 c n) 0 ∗ cOwn c n (n / 4) (run X Y n (n / 4) c)) := rfl
/-- `backZ` spelt out. -/
theorem backZ_eq (c : Dev nD) (n : ℕ) : backZ X Y c n = iprop(semVal (dCell 2 c n) 0 ∗ gOwn c fullShare n (zq c (n / 4)) (gVal X Y c n)) := rfl

/-- `sy` transfers along y and `sz` along z are sent, `ry` and `rz` received. -/
def St (c : Dev nD) (sy ry sz rz : ℕ) : sProp 𝕄 :=
  iprop(invs X Y K ∗ levAts L lv ∗ prog 12 sy (todoY (F := F) c) (goneY c) ∗ prog 12 ry (waitY (F := F) c) (gotY c)
    ∗ prog 12 sz (todoZ (F := F) c) (goneZ X Y c) ∗ prog 12 rz (waitZ (F := F) c) (gotZ c) ∗ ∃ W, owes (c : Thread nD τ) (due c sy sz) W)

/-- Everything is sent and received; `by'` transfers along y and `bz` along z are known to have left. -/
def Fn (c : Dev nD) (by' bz : ℕ) : sProp 𝕄 :=
  iprop(invs X Y K ∗ prog 12 by' (goneY (F := F) c) (backY X Y c) ∗ prog 12 12 (waitY (F := F) c) (gotY c)
    ∗ prog 12 bz (goneZ X Y c) (backZ X Y c) ∗ prog 12 12 (waitZ (F := F) c) (gotZ c) ∗ ∃ W, owes (c : Thread nD τ) 0 W)

/-- `St` spelt out. -/
theorem St_eq (c : Dev nD) (sy ry sz rz : ℕ) : St X Y K c sy ry sz rz = iprop(invs X Y K ∗ levAts L lv ∗ prog 12 sy (todoY (F := F) c) (goneY c)
    ∗ prog 12 ry (waitY (F := F) c) (gotY c) ∗ prog 12 sz (todoZ (F := F) c) (goneZ X Y c) ∗ prog 12 rz (waitZ (F := F) c) (gotZ c)
    ∗ ∃ W, owes (c : Thread nD τ) (due c sy sz) W) := rfl
/-- `Fn` spelt out. -/
theorem Fn_eq (c : Dev nD) (by' bz : ℕ) : Fn X Y K c by' bz = iprop(invs X Y K ∗ prog 12 by' (goneY (F := F) c) (backY X Y c)
    ∗ prog 12 12 (waitY (F := F) c) (gotY c) ∗ prog 12 bz (goneZ X Y c) (backZ X Y c) ∗ prog 12 12 (waitZ (F := F) c) (gotZ c)
    ∗ ∃ W, owes (c : Thread nD τ) 0 W) := rfl

/-- With all sent along `y` and `b` along `z`, a device may wait at a cell whose level is below all it still owes. -/
theorem mayWaitZ (c : Dev nD) (sm : SemLoc sig) (k b : ℕ) (hk : lv ((c : Thread nD τ), sm) () = k) (hb : k < 14 + b) :
    (levAts L lv : sProp 𝕄) ⊢ MayWait (c : Thread nD τ) sm () (due c 12 b) :=
  MayOwe.of_cut (L := L) (lev := lv) k (fun p hp => by
      rw [Finset.mem_singleton] at hp; subst hp; exact mem_L _ _)
    (fun g u hg => by cases u; exact (due_lv c 12 b g () hg).1)
    (fun p hp => by rw [Finset.mem_singleton] at hp; subst hp; exact hk.le)
    (fun g u hg => by
      rcases due_pos c 12 b g u hg with ⟨n, h1, h2, rfl⟩ | ⟨n, h1, h2, rfl⟩
      · omega
      · cases u; rw [lv_3 _ _ h2]; omega)

/-- A send cell along `y` pays the chunk that was sent. -/
theorem dPay_0 (c : Dev nD) (n : ℕ) : dPay X Y c 0 n = cOwn c n (n / 4) (run X Y n (n / 4) c) := rfl
/-- A receive cell along `y` pays the slot with the left neighbour's sum. -/
theorem dPay_1 (c : Dev nD) (n : ℕ) : dPay X Y c 1 n = cOwn c n (n / 4 + 1) (run X Y n (n / 4) (yL c)) := rfl
/-- A send cell along `z` pays half of the slot that was sent. -/
theorem dPay_2 (c : Dev nD) (n : ℕ) : dPay X Y c 2 n = gOwn c fullShare.left n (zq c (n / 4)) (gVal X Y c n) := rfl
/-- A receive cell along `z` pays the slot with the block that has come. -/
theorem dPay_3 (c : Dev nD) (n : ℕ) :
    dPay X Y c 3 n = gOwn c fullShare n (zq c (n / 4 + 1)) (run X Y n 3 (atZ c (zq c (n / 4 + 1)))) := rfl

/-! ## The moves -/

section Moves

variable (c : Dev nD) {α : Type}

/-- A cell whose one round is over is closed: its counter is zero. -/
theorem close_d (j : ℕ) (n : ℕ) : iprop(invs X Y K ∗ atPos ER (dCell j c n) (0 + 1) ∅ 0) ⊢ iprop(|={Set.univ}=> semVal (dCell j c n) 0) := by
  iintro ⟨#Hi, Hat⟩
  iapply (Rounds.cell_close ER (sched X Y) (κ := K (dCell j c n)) (Set.mem_univ _) (fun h => h) (R := 0 + 1) (duties_later X Y (dCell j c n)))
  isplitr; · iapply (inv_d X Y K j c n); iexact Hi
  iexact Hat

/-- Transfer `k` along y leaves. -/
theorem mv_sendY {Q : α → sProp 𝕄} (k : ℕ) (hk : k < 12) {ry sz rz : ℕ} {offs offd : Fin S4x4x256x256.rank → ℕ} {hs : ∀ a, offs a + S1x1x256x256.size a ≤ S4x4x256x256.size a}
    {hd : ∀ a, offd a + S1x1x256x256.size a ≤ S4x4x256x256.size a} {sS rS : DmaSem sig} {n' : Dev nD}
    (es : offs = ![k % 4, k / 4 % 4, 0, 0]) (ed : offd = ![k % 4, (k / 4 + 1) % 4, 0, 0]) (eS : sS = dS 0 k) (eR : rS = dS 1 k) (en : n' = yR c)
    {hsc : (sq (cM.slice (Rect.unit (s := S4x4x256x256) offd S1x1x256x256.size hd) (fun _ => rfl))).view.ref.isScScratch = false}
    {hsrc : (sq (cM.slice (Rect.unit (s := S4x4x256x256) offs S1x1x256x256.size hs) (fun _ => rfl))).view.WordExact}
    {hdst : (sq (cM.slice (Rect.unit (s := S4x4x256x256) offd S1x1x256x256.size hd) (fun _ => rfl))).view.WordExact}
    {hsem : DmaTarget.Typed .vmem (.dma rS) (.remote (Dev.tc n' : Thread nD τ) (sq (cM.slice (Rect.unit (s := S4x4x256x256) offd S1x1x256x256.size hd) (fun _ => rfl))) (.dma sS) hsc)}
    {p : PUnit → Prog (TpuEff nD τ sig (Elt F) Λ₀ .tc) α} :
    iprop(St X Y K c k ry sz rz ∗ cOwn c k (k / 4) (run X Y k (k / 4) c))
      ⊢ iprop((St X Y K c (k + 1) ry sz rz -∗ wpc c (p ⟨⟩) Q)
        -∗ wpc c (.op (.enqueueDma (sq (cM.slice (Rect.unit (s := S4x4x256x256) offs S1x1x256x256.size hs) (fun _ => rfl)))
          (.remote (Dev.tc n' : Thread nD τ) (sq (cM.slice (Rect.unit (s := S4x4x256x256) offd S1x1x256x256.size hd) (fun _ => rfl))) (.dma sS) hsc) (.dma rS) hsrc hdst hsem) p) Q) := by
  subst es ed eS eR en
  iintro ⟨HSt, Hs⟩ Hk
  ihave HSt := (Entails.of_eq (St_eq X Y K c k ry sz rz)) $$ HSt
  icases HSt with ⟨#Hi, #Hl, HP, HR, HPz, HRz, ⟨%W, HO⟩⟩
  ihave HP2 := (prog_step hk (todoY (F := F) c) (goneY c)) $$ HP
  icases HP2 with ⟨HT, HP⟩
  ihave HT := (Entails.of_eq (todoY_eq (F := F) c k)) $$ HT
  icases HT with ⟨Ht1, Ht2, Hr1, Hat, ⟨Hd, Hr2⟩⟩
  iapply (wp_send_slot X Y c (yR c) (src := cS k (k / 4)) (dst := cS k (k / 4 + 1)) (sS := dS 0 k) (rS := dS 1 k) fullShare (run X Y k (k / 4) c)
      (κ₁ := K (dCell 0 c k)) (κ₂ := K (dCell 1 (yR c) k)) (by rw [duties_d]; exact Finset.mem_singleton_self _)
      (by rw [duties_d]; exact Finset.mem_singleton_self _) rfl (due c (k + 1) sz) (due_stepY c k sz hk)
      (by rw [payload_d X Y (by decide) c hk]; exact .rfl)
      (by rw [payload_d X Y (by decide) (yR c) hk]; unfold dPay; rw [if_neg (by decide), if_pos rfl, yL_yR]))
    $$ [Hs Hd HO Ht1 Ht2 Hr1 Hr2]
  · isplitr; · iapply (inv_d X Y K 0 c k); iexact Hi
    isplitr; · iapply (inv_d X Y K 1 (yR c) k); iexact Hi
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  iapply (Entails.of_eq (St_eq X Y K c (k + 1) ry sz rz).symm)
  isplitr; · iexact Hi
  isplitr; · iexact Hl
  isplitl [HP Hat Hc]
  · iapply HP
    iapply (Entails.of_eq (goneY_eq (F := F) c k).symm)
    isplitl [Hat]; · iexact Hat
    iexact Hc
  isplitl [HR]; · iexact HR
  isplitl [HPz]; · iexact HPz
  isplitl [HRz]; · iexact HRz
  iexists W; iexact HO

/-- Transfer `k` along z leaves; half of the source's share stays. -/
theorem mv_sendZ {Q : α → sProp 𝕄} (k : ℕ) (hk : k < 12) {sy ry rz : ℕ} {offs offd : Fin S4x4x256x256.rank → ℕ} {hs : ∀ a, offs a + S1x1x256x256.size a ≤ S4x4x256x256.size a}
    {hd : ∀ a, offd a + S1x1x256x256.size a ≤ S4x4x256x256.size a} {sS rS : DmaSem sig} {n' : Dev nD}
    (es : offs = ![k % 4, zq c (k / 4) % 4, 0, 0]) (ed : offd = ![k % 4, zq c (k / 4) % 4, 0, 0]) (eS : sS = dS 2 k) (eR : rS = dS 3 k) (en : n' = zR c)
    {hsc : (sq (gM.slice (Rect.unit (s := S4x4x256x256) offd S1x1x256x256.size hd) (fun _ => rfl))).view.ref.isScScratch = false}
    {hsrc : (sq (gM.slice (Rect.unit (s := S4x4x256x256) offs S1x1x256x256.size hs) (fun _ => rfl))).view.WordExact}
    {hdst : (sq (gM.slice (Rect.unit (s := S4x4x256x256) offd S1x1x256x256.size hd) (fun _ => rfl))).view.WordExact}
    {hsem : DmaTarget.Typed .vmem (.dma rS) (.remote (Dev.tc n' : Thread nD τ) (sq (gM.slice (Rect.unit (s := S4x4x256x256) offd S1x1x256x256.size hd) (fun _ => rfl))) (.dma sS) hsc)}
    {p : PUnit → Prog (TpuEff nD τ sig (Elt F) Λ₀ .tc) α} :
    iprop(St X Y K c sy ry k rz ∗ gOwn c fullShare k (zq c (k / 4)) (gVal X Y c k))
      ⊢ iprop((St X Y K c sy ry (k + 1) rz -∗ wpc c (p ⟨⟩) Q)
        -∗ wpc c (.op (.enqueueDma (sq (gM.slice (Rect.unit (s := S4x4x256x256) offs S1x1x256x256.size hs) (fun _ => rfl)))
          (.remote (Dev.tc n' : Thread nD τ) (sq (gM.slice (Rect.unit (s := S4x4x256x256) offd S1x1x256x256.size hd) (fun _ => rfl))) (.dma sS) hsc) (.dma rS) hsrc hdst hsem) p) Q) := by
  subst es ed eS eR en
  iintro ⟨HSt, Hs⟩ Hk
  ihave HSt := (Entails.of_eq (St_eq X Y K c sy ry k rz)) $$ HSt
  icases HSt with ⟨#Hi, #Hl, HPy, HRy, HP, HR, ⟨%W, HO⟩⟩
  ihave HP2 := (prog_step hk (todoZ (F := F) c) (goneZ X Y c)) $$ HP
  icases HP2 with ⟨HT, HP⟩
  ihave HT := (Entails.of_eq (todoZ_eq (F := F) c k)) $$ HT
  icases HT with ⟨Ht1, Ht2, Hr1, Hat, ⟨Hd, Hr2⟩⟩
  ihave Hs2 := (owns_halves (c : Thread nD τ) (gS k (zq c (k / 4))) fullShare (gVal X Y c k)).1 $$ Hs
  icases Hs2 with ⟨Hs, Hkeep⟩
  have hk4 : k / 4 < 3 := by omega
  have ez := zq_zR c (k / 4) hk4
  rw [ez]
  iapply (wp_send_slot X Y c (zR c) (src := gS k (zq c (k / 4))) (dst := gS k (zq c (k / 4))) (sS := dS 2 k) (rS := dS 3 k) fullShare.left (gVal X Y c k)
      (κ₁ := K (dCell 2 c k)) (κ₂ := K (dCell 3 (zR c) k)) (by rw [duties_d]; exact Finset.mem_singleton_self _)
      (by rw [duties_d]; exact Finset.mem_singleton_self _) rfl (due c sy (k + 1)) (due_stepZ c sy k hk)
      (by rw [payload_d X Y (by decide) c hk]; exact .rfl)
      (by rw [payload_d X Y (by decide) (zR c) hk]; unfold dPay; rw [if_neg (by decide), if_neg (by decide), if_neg (by decide), ez, atZ_zR]))
    $$ [Hs Hd HO Ht1 Ht2 Hr1 Hr2]
  · isplitr; · iapply (inv_d X Y K 2 c k); iexact Hi
    isplitr; · iapply (inv_d X Y K 3 (zR c) k); iexact Hi
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  iapply (Entails.of_eq (St_eq X Y K c sy ry (k + 1) rz).symm)
  isplitr; · iexact Hi
  isplitr; · iexact Hl
  isplitl [HPy]; · iexact HPy
  isplitl [HRy]; · iexact HRy
  isplitl [HP Hat Hc Hkeep]
  · iapply HP
    iapply (Entails.of_eq (goneZ_eq X Y c k).symm)
    isplitl [Hat]; · iexact Hat
    isplitl [Hc]; · iexact Hc
    iexact Hkeep
  isplitl [HR]; · iexact HR
  iexists W; iexact HO

/-- The wait for a DMA cell's one round: its payment comes, and the cell is closed. -/
theorem wait_core {Q : α → sProp 𝕄} (j n : ℕ) (hj : j < 4) (hn : n < 12) {O : CellTallies nD τ sig Unit} {W : Waits sig Unit} {s s' : Shape} {e : EltTy}
    {src : Memref sig .tc .vmem s e} {dst : Memref sig .tc .vmem s' e} {h1 : src.view.WordExact} {h2 : dst.view.WordExact}
    (hN : dst.view.dmaCredit = N) {p : PUnit → Prog (TpuEff nD τ sig (Elt F) Λ₀ .tc) α} :
    iprop(invs X Y K ∗ MayWait (c : Thread nD τ) (.dma (dS j n)) () O ∗ atPos ER (dCell j c n) 0 ∅ 0 ∗ cred (tallyAt (dCell j c n) () N) ∗ owes (c : Thread nD τ) O W)
      ⊢ iprop(((∃ W', owes (c : Thread nD τ) O W') -∗ semVal (dCell j c n) 0 -∗ dPay X Y c j n -∗ wpc c (p ⟨⟩) Q)
        -∗ wpc c (.op (.waitDma2 (dS j n) src dst h1 h2) p) Q) := by
  iintro ⟨#Hi, Hm, Hat, Hc, HO⟩ Hk
  iapply (Rounds.wp_wait_rest_token 𝒱₀ ER (sched X Y) (c : Thread nD τ) none (κ := K (dCell j c n)) (k' := N)
      (fun Kt => (wpE_waitDma2_eq 𝒱₀ (c : Thread nD τ) none Set.univ Kt).trans (congrArg (fun m => waitSpec (c : Thread nD τ) Set.univ (.dma (dS j n)) m Kt) hN)) (Set.mem_univ _) () (O := O) (W := W) (R := 0) (m := 0) (T := ∅)
      ((Nat.zero_add _).trans (expect_d X Y j c n).symm)) $$ [Hc HO Hat Hm]
  · isplitr; · iapply (inv_d X Y K j c n); iexact Hi
    isplitl [Hc]; · iexact Hc
    isplitl [HO]; · iexact HO
    isplitl [Hm]; · iexact Hm
    iexact Hat
  iintro ⟨HO, Hat, #Hr, Hpay⟩
  imod (close_d X Y K c j n) $$ [Hat] with Hs
  · isplitr; · iexact Hi
    iexact Hat
  ihave Hp := (Entails.of_eq (rest_d X Y hj c hn)) $$ Hpay
  iapply Hk $$ [HO] Hs Hp
  iexists _; iexact HO

/-- Transfer `k` along y has come. -/
theorem mv_waitY {Q : α → sProp 𝕄} (k : ℕ) (hk : k < 12) {sy sz rz : ℕ} (hsy : k < sy) {sem : DmaSem sig} (es : sem = dS 1 k) {s s' : Shape} {e : EltTy}
    {src : Memref sig .tc .vmem s e} {dst : Memref sig .tc .vmem s' e} {h1 : src.view.WordExact} {h2 : dst.view.WordExact}
    (hN : dst.view.dmaCredit = N) {p : PUnit → Prog (TpuEff nD τ sig (Elt F) Λ₀ .tc) α} :
    St X Y K c sy k sz rz
      ⊢ iprop((St X Y K c sy (k + 1) sz rz -∗ cOwn c k (k / 4 + 1) (run X Y k (k / 4) (yL c)) -∗ wpc c (p ⟨⟩) Q)
        -∗ wpc c (.op (.waitDma2 sem src dst h1 h2) p) Q) := by
  subst es
  iintro HSt Hk
  ihave HSt := (Entails.of_eq (St_eq X Y K c sy k sz rz)) $$ HSt
  icases HSt with ⟨#Hi, #Hl, HP, HR, HPz, HRz, ⟨%W, HO⟩⟩
  ihave HR2 := (prog_step hk (waitY (F := F) c) (gotY c)) $$ HR
  icases HR2 with ⟨HT, HR⟩
  ihave HT := (Entails.of_eq (waitY_eq (F := F) c k)) $$ HT
  icases HT with ⟨Hat, Hc⟩
  iapply (wait_core X Y K c 1 k (by decide) hk (O := due c sy sz) hN) $$ [Hat Hc HO]
  · isplitr; · iexact Hi
    isplitr
    · iapply (mayWait c (.dma (dS 1 k)) (2 + k) sy sz (lv_1 c k hk) (by omega) (by omega)); iexact Hl
    isplitl [Hat]; · iexact Hat
    isplitl [Hc]; · iexact Hc
    iexact HO
  iintro HO Hs Hpay
  ihave Hpay := (Entails.of_eq (dPay_1 X Y c k)) $$ Hpay
  iapply Hk $$ [HO Hs HP HR HPz HRz] Hpay
  iapply (Entails.of_eq (St_eq X Y K c sy (k + 1) sz rz).symm)
  isplitr; · iexact Hi
  isplitr; · iexact Hl
  isplitl [HP]; · iexact HP
  isplitl [HR Hs]; · iapply HR; iapply (Entails.of_eq (gotY_eq (F := F) c k).symm); iexact Hs
  isplitl [HPz]; · iexact HPz
  isplitl [HRz]; · iexact HRz
  iexact HO

/-- Transfer `k` along z has come. -/
theorem mv_waitZ {Q : α → sProp 𝕄} (k : ℕ) (hk : k < 12) {ry sz : ℕ} (hsz : k < sz) {sem : DmaSem sig} (es : sem = dS 3 k) {s s' : Shape} {e : EltTy}
    {src : Memref sig .tc .vmem s e} {dst : Memref sig .tc .vmem s' e} {h1 : src.view.WordExact} {h2 : dst.view.WordExact}
    (hN : dst.view.dmaCredit = N) {p : PUnit → Prog (TpuEff nD τ sig (Elt F) Λ₀ .tc) α} :
    St X Y K c 12 ry sz k
      ⊢ iprop((St X Y K c 12 ry sz (k + 1) -∗ gOwn c fullShare k (zq c (k / 4 + 1)) (run X Y k 3 (atZ c (zq c (k / 4 + 1)))) -∗ wpc c (p ⟨⟩) Q)
        -∗ wpc c (.op (.waitDma2 sem src dst h1 h2) p) Q) := by
  subst es
  iintro HSt Hk
  ihave HSt := (Entails.of_eq (St_eq X Y K c 12 ry sz k)) $$ HSt
  icases HSt with ⟨#Hi, #Hl, HP, HR, HPz, HRz, ⟨%W, HO⟩⟩
  ihave HR2 := (prog_step hk (waitZ (F := F) c) (gotZ c)) $$ HRz
  icases HR2 with ⟨HT, HRz⟩
  ihave HT := (Entails.of_eq (waitZ_eq (F := F) c k)) $$ HT
  icases HT with ⟨Hat, Hc⟩
  iapply (wait_core X Y K c 3 k (by decide) hk (O := due c 12 sz) hN) $$ [Hat Hc HO]
  · isplitr; · iexact Hi
    isplitr
    · iapply (mayWaitZ c (.dma (dS 3 k)) (14 + k) sz (lv_3 c k hk) (by omega)); iexact Hl
    isplitl [Hat]; · iexact Hat
    isplitl [Hc]; · iexact Hc
    iexact HO
  iintro HO Hs Hpay
  ihave Hpay := (Entails.of_eq (dPay_3 X Y c k)) $$ Hpay
  iapply Hk $$ [HO Hs HP HR HPz HRz] Hpay
  iapply (Entails.of_eq (St_eq X Y K c 12 ry sz (k + 1)).symm)
  isplitr; · iexact Hi
  isplitr; · iexact Hl
  isplitl [HP]; · iexact HP
  isplitl [HR]; · iexact HR
  isplitl [HPz]; · iexact HPz
  isplitl [HRz Hs]; · iapply HRz; iapply (Entails.of_eq (gotZ_eq (F := F) c k).symm); iexact Hs
  iexact HO

/-- The source of transfer `k` along y is back. -/
theorem mv_backY {Q : α → sProp 𝕄} (k : ℕ) (hk : k < 12) {bz : ℕ} {sem : DmaSem sig} (es : sem = dS 0 k) {s s' : Shape} {e : EltTy}
    {src : Memref sig .tc .vmem s e} {dst : Memref sig .tc .vmem s' e} {h1 : src.view.WordExact} {h2 : dst.view.WordExact}
    (hN : dst.view.dmaCredit = N) {p : PUnit → Prog (TpuEff nD τ sig (Elt F) Λ₀ .tc) α} :
    Fn X Y K c k bz ⊢ iprop((Fn X Y K c (k + 1) bz -∗ wpc c (p ⟨⟩) Q) -∗ wpc c (.op (.waitDma2 sem src dst h1 h2) p) Q) := by
  subst es
  iintro HSt Hk
  ihave HSt := (Entails.of_eq (Fn_eq X Y K c k bz)) $$ HSt
  icases HSt with ⟨#Hi, HP, HR, HPz, HRz, ⟨%W, HO⟩⟩
  ihave HP2 := (prog_step hk (goneY (F := F) c) (backY X Y c)) $$ HP
  icases HP2 with ⟨HT, HP⟩
  ihave HT := (Entails.of_eq (goneY_eq (F := F) c k)) $$ HT
  icases HT with ⟨Hat, Hc⟩
  iapply (wait_core X Y K c 0 k (by decide) hk (O := 0) hN) $$ [Hat Hc HO]
  · isplitr; · iexact Hi
    isplitr; · rw [MayWait_zero]; iempintro
    isplitl [Hat]; · iexact Hat
    isplitl [Hc]; · iexact Hc
    iexact HO
  iintro HO Hs Hpay
  ihave Hpay := (Entails.of_eq (dPay_0 X Y c k)) $$ Hpay
  iapply Hk
  iapply (Entails.of_eq (Fn_eq X Y K c (k + 1) bz).symm)
  isplitr; · iexact Hi
  isplitl [HP Hs Hpay]
  · iapply HP
    iapply (Entails.of_eq (backY_eq X Y c k).symm)
    isplitl [Hs]; · iexact Hs
    iexact Hpay
  isplitl [HR]; · iexact HR
  isplitl [HPz]; · iexact HPz
  isplitl [HRz]; · iexact HRz
  iexact HO

/-- The half of the source of transfer `k` along z that went with it is back, and joins the half that stayed. -/
theorem mv_backZ {Q : α → sProp 𝕄} (k : ℕ) (hk : k < 12) {by' : ℕ} {sem : DmaSem sig} (es : sem = dS 2 k) {s s' : Shape} {e : EltTy}
    {src : Memref sig .tc .vmem s e} {dst : Memref sig .tc .vmem s' e} {h1 : src.view.WordExact} {h2 : dst.view.WordExact}
    (hN : dst.view.dmaCredit = N) {p : PUnit → Prog (TpuEff nD τ sig (Elt F) Λ₀ .tc) α} :
    Fn X Y K c by' k ⊢ iprop((Fn X Y K c by' (k + 1) -∗ wpc c (p ⟨⟩) Q) -∗ wpc c (.op (.waitDma2 sem src dst h1 h2) p) Q) := by
  subst es
  iintro HSt Hk
  ihave HSt := (Entails.of_eq (Fn_eq X Y K c by' k)) $$ HSt
  icases HSt with ⟨#Hi, HP, HR, HPz, HRz, ⟨%W, HO⟩⟩
  ihave HP2 := (prog_step hk (goneZ X Y c) (backZ X Y c)) $$ HPz
  icases HP2 with ⟨HT, HPz⟩
  ihave HT := (Entails.of_eq (goneZ_eq X Y c k)) $$ HT
  icases HT with ⟨Hat, Hc, Hkeep⟩
  iapply (wait_core X Y K c 2 k (by decide) hk (O := 0) hN) $$ [Hat Hc HO]
  · isplitr; · iexact Hi
    isplitr; · rw [MayWait_zero]; iempintro
    isplitl [Hat]; · iexact Hat
    isplitl [Hc]; · iexact Hc
    iexact HO
  iintro HO Hs Hpay
  ihave Hpay := (Entails.of_eq (dPay_2 X Y c k)) $$ Hpay
  iapply Hk
  iapply (Entails.of_eq (Fn_eq X Y K c by' (k + 1)).symm)
  isplitr; · iexact Hi
  isplitl [HP]; · iexact HP
  isplitl [HR]; · iexact HR
  isplitl [HPz Hs Hpay Hkeep]
  · iapply HPz
    iapply (Entails.of_eq (backZ_eq X Y c k).symm)
    isplitl [Hs]; · iexact Hs
    iapply (owns_halves (c : Thread nD τ) (gS k (zq c (k / 4))) fullShare (gVal X Y c k)).2
    isplitl [Hpay]; · iexact Hpay
    iexact Hkeep
  isplitl [HRz]; · iexact HRz
  iexact HO

end Moves

end Cert.Ring
-- ==== Proof.Kit.lean ====
/-
  The kernel's arithmetic steps: the accumulator's columns, the chunks added round the ring, the slots gathered
  along z, the result's columns.
-/
module

public import proofs.«01_k».proof.Proof.Moves

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (X Y : Dev nD → Vec F S1024x1024 .bf16) (K : GSem nD τ sig → ℕ)

/-! ## Slot numbers count modulo four -/

omit [FloatOps F] in
/-- Rectangles at equal offsets place an index alike. -/
theorem emb_unit_congr {s : Shape} {off off' size : Fin s.rank → ℕ} (e : off = off') (h : ∀ a, off a + size a ≤ s.size a) (h' : ∀ a, off' a + size a ≤ s.size a)
    (j : Shape.Idx ⟨s.rank, size⟩) : (Rect.unit off size h).emb j = (Rect.unit off' size h').emb j := by subst e; rfl

/-- A chunk depends on its number modulo four. -/
theorem chunk_mod (c : Dev nD) {n n' : ℕ} (h : n % 4 = n' % 4) (j : ℕ) : chunk X Y c n j = chunk X Y c n' j := by
  have e : (fun j => Y c ((colA n).emb j) : S1024x256.Idx → Elt F .bf16) = fun j => Y c ((colA n').emb j) := funext fun j =>
    congrArg (Y c) (emb_unit_congr (s := S1024x1024) (by rw [h]) _ _ j)
  funext i
  exact congrArg (fun u : S1024x256.Idx → Elt F .bf16 => k0_pay2 (X c) u ((rowB j).emb i)) e
/-- A running sum depends on its number modulo four. -/
theorem run_mod {n n' : ℕ} (h : n % 4 = n' % 4) : ∀ (s : ℕ) (c : Dev nD), run X Y n s c = run X Y n' s c
  | 0, c => by unfold run; rw [chunk_mod X Y c h]
  | s + 1, c => by rw [run, run, chunk_mod X Y c h, run_mod h s]

/-- A slot named by coordinates equal modulo four, at equal contents. -/
theorem own_congr {M : Memref sig .tc .vmem S4x4x256x256 .bf16} (c : Dev nD) (q : PosShare TreeShare) {a b a' b' : ℕ} {v v' : Vec F S1x1x256x256 .bf16}
    (ha : a % 4 = a' % 4) (hb : b % 4 = b' % 4) (hv : v = v') :
    (owns (c : Thread nD τ) (M.slice (slotR a b) (fun _ => rfl)) q v : sProp 𝕄) ⊢ owns (c : Thread nD τ) (M.slice (slotR a' b') (fun _ => rfl)) q v' := by
  subst hv
  have e : (![a % 4, b % 4, 0, 0] : Fin S4x4x256x256.rank → ℕ) = ![a' % 4, b' % 4, 0, 0] := by rw [ha, hb]
  have key : ∀ (o o' : Fin S4x4x256x256.rank → ℕ) (h : ∀ i, o i + S1x1x256x256.size i ≤ S4x4x256x256.size i) (h' : ∀ i, o' i + S1x1x256x256.size i ≤ S4x4x256x256.size i), o = o' →
      ((owns (c : Thread nD τ) (M.slice (Rect.unit (s := S4x4x256x256) o S1x1x256x256.size h) (fun _ => rfl)) q v : sProp 𝕄)
        ⊢ owns (c : Thread nD τ) (M.slice (Rect.unit (s := S4x4x256x256) o' S1x1x256x256.size h') (fun _ => rfl)) q v) := by
    intro o o' h h' e; subst e; exact .rfl
  exact key _ _ _ _ e

/-! ## What passes between the steps -/

/-- The chunk that transfer `n` along y sends, before it is sent; as it comes from the left. -/
abbrev sndY (c : Dev nD) (n : ℕ) : sProp 𝕄 := cOwn c n (n / 4) (run X Y n (n / 4) c)
/-- The chunk that transfer `n` along `y` brings, as it comes from the left. -/
abbrev rcvY (c : Dev nD) (n : ℕ) : sProp 𝕄 := cOwn c n (n / 4 + 1) (run X Y n (n / 4) (yL c))
/-- The slot that transfer `n` along z sends; as it comes from the left. -/
abbrev sndZ (c : Dev nD) (n : ℕ) : sProp 𝕄 := gOwn c fullShare n (zq c (n / 4)) (gVal X Y c n)
/-- The slot that transfer `n` along `z` brings, as it comes from the left. -/
abbrev rcvZ (c : Dev nD) (n : ℕ) : sProp 𝕄 := gOwn c fullShare n (zq c (n / 4 + 1)) (run X Y n 3 (atZ c (zq c (n / 4 + 1))))
/-- The slots a device fills itself, before it does. -/
abbrev emC (c : Dev nD) (st : ℕ) : sProp 𝕄 := iprop(∃ v, cOwn (F := F) c st 0 v)
/-- A gather slot that the device fills itself, before it does. -/
abbrev emG (c : Dev nD) (st : ℕ) : sProp 𝕄 := iprop(∃ v, gOwn (F := F) c fullShare st (zq c 0) v)
/-- The accumulator with `k` columns computed. -/
abbrev acc (c : Dev nD) (k : ℕ) : sProp 𝕄 := cols c aM colA k (part X Y c)
/-- Block `b` of the result, and the result with `k` blocks written. -/
def oBlk (c : Dev nD) (b : ℕ) : Vec F S256x256 .f32 := k0_pay25 (run X Y (b % 4) 3 (atZ c (b / 4)))
/-- The result with `k` blocks written. -/
abbrev out (c : Dev nD) (k : ℕ) : sProp 𝕄 := cols c oM colO k (oBlk X Y c)

/-- What transfer `n` along `z` brings is what transfer `n + 4` sends. -/
theorem rcvZ_next (c : Dev nD) (n : ℕ) : rcvZ X Y c n ⊢ sndZ X Y c (n + 4) := by
  have e : (n + 4) / 4 = n / 4 + 1 := by omega
  refine own_congr c fullShare (by omega) (by rw [e]) ?_
  rw [gVal, e]; exact run_mod X Y (by omega) _ _

/-! ## Loads and stores of the steps -/

section Ops

variable (c : Dev nD) {α : Type}

/-- A return. -/
theorem wpc_ret {Q : α → sProp 𝕄} (a : α) : Q a ⊢ wpc c (.ret a) Q := by
  unfold wpc
  rw [wp_ret]
  iintro H; imodintro; iexact H

/-- A whole operand is loaded. -/
theorem ld_whole {Q : α → sProp 𝕄} (M : Memref sig .tc .vmem S1024x1024 .bf16) (f : Vec F S1024x1024 .bf16)
    {off : Fin S1024x1024.rank → ℕ} {h : ∀ a, off a + S1024x1024.size a ≤ S1024x1024.size a} {hl : M.view.LoadsAt (Rect.unit (s := S1024x1024) off S1024x1024.size h).toLoadRect}
    {k : (S1024x1024.Idx → Elt F .bf16) → Prog (TpuEff nD τ sig (Elt F) Λ₀ .tc) α} :
    owns (c : Thread nD τ) M fullShare f
      ⊢ iprop((owns (c : Thread nD τ) M fullShare f -∗ wpc c (k f) Q)
        -∗ wpc c (.op (.load M (Rect.unit (s := S1024x1024) off S1024x1024.size h).toLoadRect hl) k) Q) := by
  have e : (fun j => f ((Rect.unit (s := S1024x1024) off S1024x1024.size h).emb j)) = f := funext fun j => congrArg f (funext fun a => Fin.ext (by
    have := h a
    show off a + 1 * (j a).val = (j a).val
    omega))
  have := wp_ld_sub (F := F) c M (Q := Q) fullShare f (r := Rect.unit (s := S1024x1024) off S1024x1024.size h) (hl := hl) (k := k)
  rw [e] at this; exact this

/-- A column block of the second operand is loaded. -/
theorem ld_y {Q : α → sProp 𝕄} (f : Vec F S1024x1024 .bf16) (k : ℕ) {off : Fin S1024x1024.rank → ℕ} (eo : off = ![0, 256 * (k % 4)])
    {h : ∀ a, off a + S1024x256.size a ≤ S1024x1024.size a} {hl : yM.view.LoadsAt (Rect.unit (s := S1024x1024) off S1024x256.size h).toLoadRect}
    {p : (S1024x256.Idx → Elt F .bf16) → Prog (TpuEff nD τ sig (Elt F) Λ₀ .tc) α} :
    owns (c : Thread nD τ) yM fullShare f
      ⊢ iprop((owns (c : Thread nD τ) yM fullShare f -∗ wpc c (p fun j => f ((colA k).emb j)) Q)
        -∗ wpc c (.op (.load yM (Rect.unit (s := S1024x1024) off S1024x256.size h).toLoadRect hl) p) Q) := by
  subst eo
  exact wp_ld_sub (F := F) c yM (Q := Q) fullShare f (r := Rect.unit (s := S1024x1024) ![0, 256 * (k % 4)] S1024x256.size h) (hl := hl) (k := p)

/-- Two column blocks of the accumulator are disjoint. -/
theorem colA_disj {t k : ℕ} (hk : k < 4) (ht : t < k) : Disjoint (colA t).set (colA k).set :=
  Rect.unit_disjoint (1 : Fin 2) (by left; show 256 * (t % 4) + 256 ≤ 256 * (k % 4); omega)
/-- Two column blocks of the result are disjoint. -/
theorem colO_disj {t k : ℕ} (hk : k < 16) (ht : t < k) : Disjoint (colO t).set (colO k).set :=
  Rect.unit_disjoint (1 : Fin 2) (by left; show 256 * (t % 16) + 256 ≤ 256 * (k % 16); omega)

/-- The next column block of the partial product is stored. -/
theorem st_acc {Q : α → sProp 𝕄} (k : ℕ) (hk : k < 4) {off : Fin S1024x1024.rank → ℕ} (eo : off = ![0, 256 * (k % 4)]) {w : S1024x256.Idx → Elt F .f32}
    (ew : w = part X Y c k) {h : ∀ a, off a + S1024x256.size a ≤ S1024x1024.size a}
    {hx : (aM.access (Rect.unit (s := S1024x1024) off S1024x256.size h)).Stores Finset.univ}
    {hm : (Finset.univ : Finset (Rect.unit (s := S1024x1024) off S1024x256.size h).shape.Idx) = Finset.univ ∨ ∀ a, (Rect.unit (s := S1024x1024) off S1024x256.size h).stride a = 1}
    {p : PUnit → Prog (TpuEff nD τ sig (Elt F) Λ₀ .tc) α} :
    acc X Y c k ⊢ iprop((acc X Y c (k + 1) -∗ wpc c (p ⟨⟩) Q)
      -∗ wpc c (.op (.store aM (Rect.unit (s := S1024x1024) off S1024x256.size h) w Finset.univ hx hm) p) Q) := by
  subst eo ew
  exact wp_st_cols c aM (fun t ht => colA_disj hk ht)

/-- The next block of the result is stored. -/
theorem st_out {Q : α → sProp 𝕄} (k : ℕ) (hk : k < 16) {off : Fin S256x4096.rank → ℕ} (eo : off = ![0, 256 * (k % 16)]) {w : S256x256.Idx → Elt F .f32}
    (ew : w = oBlk X Y c k) {h : ∀ a, off a + S256x256.size a ≤ S256x4096.size a}
    {hx : (oM.access (Rect.unit (s := S256x4096) off S256x256.size h)).Stores Finset.univ}
    {hm : (Finset.univ : Finset (Rect.unit (s := S256x4096) off S256x256.size h).shape.Idx) = Finset.univ ∨ ∀ a, (Rect.unit (s := S256x4096) off S256x256.size h).stride a = 1}
    {p : PUnit → Prog (TpuEff nD τ sig (Elt F) Λ₀ .tc) α} :
    out X Y c k ⊢ iprop((out X Y c (k + 1) -∗ wpc c (p ⟨⟩) Q)
      -∗ wpc c (.op (.store oM (Rect.unit (s := S256x4096) off S256x256.size h) w Finset.univ hx hm) p) Q) := by
  subst eo ew
  exact wp_st_cols c oM (fun t ht => colO_disj hk ht)

/-- A chunk of the accumulator is loaded. -/
theorem ld_chunk {Q : α → sProp 𝕄} (n s : ℕ) {off : Fin S1024x1024.rank → ℕ} (k : ℕ) (hk : n % 4 < k) (eo : off = ![256 * (jr c s % 4), 256 * (n % 4)])
    {h : ∀ a, off a + S256x256.size a ≤ S1024x1024.size a} {hl : aM.view.LoadsAt (Rect.unit (s := S1024x1024) off S256x256.size h).toLoadRect}
    {p : (S256x256.Idx → Elt F .f32) → Prog (TpuEff nD τ sig (Elt F) Λ₀ .tc) α} :
    acc X Y c k
      ⊢ iprop((acc X Y c k -∗ wpc c (p (chunk X Y c n (jr c s))) Q)
        -∗ wpc c (.op (.load aM (Rect.unit (s := S1024x1024) off S256x256.size h).toLoadRect hl) p) Q) := by
  subst eo
  rw [chunk_mod X Y c (show n % 4 = (n % 4) % 4 by omega)]
  refine wp_ld_cols (F := F) c aM (Q := Q) (r := colA) (G := part X Y c) (r' := Rect.unit (s := S1024x1024) ![256 * (jr c s % 4), 256 * (n % 4)] S256x256.size h)
    (hl := hl) (p := p) (n % 4) hk (fun i => (rowB (jr c s)).emb i) (fun i => ?_)
  funext a
  apply Fin.ext
  match a with
  | 0 =>
    rw [Rect.emb_apply, Rect.emb_apply, Rect.emb_apply]
    show 256 * (jr c s % 4) + 1 * (i 0).val = 0 + 1 * (256 * (jr c s % 4) + 1 * (i 0).val)
    omega
  | 1 =>
    rw [Rect.emb_apply, Rect.emb_apply, Rect.emb_apply]
    show 256 * (n % 4) + 1 * (i 1).val = 256 * (n % 4 % 4) + 1 * (0 + 1 * (i 1).val)
    omega

/-- A slot is loaded. -/
theorem ld_slot {Q : α → sProp 𝕄} (M : Memref sig .tc .vmem S4x4x256x256 .bf16) (q : PosShare TreeShare) (a b : ℕ) (v : Vec F S1x1x256x256 .bf16)
    {off : Fin S4x4x256x256.rank → ℕ} (eo : off = ![a % 4, b % 4, 0, 0])
    {h : ∀ a, off a + S1x1x256x256.size a ≤ S4x4x256x256.size a} {hl : M.view.LoadsAt (Rect.unit (s := S4x4x256x256) off S1x1x256x256.size h).toLoadRect}
    {p : (S1x1x256x256.Idx → Elt F .bf16) → Prog (TpuEff nD τ sig (Elt F) Λ₀ .tc) α} :
    owns (c : Thread nD τ) (M.slice (slotR a b) (fun _ => rfl)) q v
      ⊢ iprop((owns (c : Thread nD τ) (M.slice (slotR a b) (fun _ => rfl)) q v -∗ wpc c (p v) Q)
        -∗ wpc c (.op (.load M (Rect.unit (s := S4x4x256x256) off S1x1x256x256.size h).toLoadRect hl) p) Q) :=
  wp_ld c M eo q v

/-- A slot is stored. -/
theorem st_slot {Q : α → sProp 𝕄} (M : Memref sig .tc .vmem S4x4x256x256 .bf16) (a b : ℕ) (v : Vec F S1x1x256x256 .bf16)
    {off : Fin S4x4x256x256.rank → ℕ} (eo : off = ![a % 4, b % 4, 0, 0]) {w : S1x1x256x256.Idx → Elt F .bf16}
    {h : ∀ a, off a + S1x1x256x256.size a ≤ S4x4x256x256.size a} {hx : (M.access (Rect.unit (s := S4x4x256x256) off S1x1x256x256.size h)).Stores Finset.univ}
    {hm : (Finset.univ : Finset (Rect.unit (s := S4x4x256x256) off S1x1x256x256.size h).shape.Idx) = Finset.univ ∨ ∀ a, (Rect.unit (s := S4x4x256x256) off S1x1x256x256.size h).stride a = 1}
    {p : PUnit → Prog (TpuEff nD τ sig (Elt F) Λ₀ .tc) α} :
    owns (c : Thread nD τ) (M.slice (slotR a b) (fun _ => rfl)) fullShare v
      ⊢ iprop((owns (c : Thread nD τ) (M.slice (slotR a b) (fun _ => rfl)) fullShare w -∗ wpc c (p ⟨⟩) Q)
        -∗ wpc c (.op (.store M (Rect.unit (s := S4x4x256x256) off S1x1x256x256.size h) w Finset.univ hx hm) p) Q) :=
  wp_st c M eo v

/-- The first chunk of column block `st` is stored where transfer `st` takes it. -/
theorem st_first {Q : α → sProp 𝕄} (st : ℕ) (hst : st < 4) (v : Vec F S1x1x256x256 .bf16)
    {off : Fin S4x4x256x256.rank → ℕ} (eo : off = ![st % 4, 0, 0, 0]) {w : S1x1x256x256.Idx → Elt F .bf16} (ew : w = k0_pay3 (chunk X Y c st (jr c 0)))
    {h : ∀ a, off a + S1x1x256x256.size a ≤ S4x4x256x256.size a} {hx : (cM.access (Rect.unit (s := S4x4x256x256) off S1x1x256x256.size h)).Stores Finset.univ}
    {hm : (Finset.univ : Finset (Rect.unit (s := S4x4x256x256) off S1x1x256x256.size h).shape.Idx) = Finset.univ ∨ ∀ a, (Rect.unit (s := S4x4x256x256) off S1x1x256x256.size h).stride a = 1}
    {p : PUnit → Prog (TpuEff nD τ sig (Elt F) Λ₀ .tc) α} :
    cOwn c st 0 v
      ⊢ iprop((sndY X Y c st -∗ wpc c (p ⟨⟩) Q)
        -∗ wpc c (.op (.store cM (Rect.unit (s := S4x4x256x256) off S1x1x256x256.size h) w Finset.univ hx hm) p) Q) := by
  subst ew
  have e0 : st / 4 = 0 := by omega
  iintro H Hk
  iapply (st_slot (F := F) c cM st 0 v eo) $$ H
  iintro H
  iapply Hk
  iapply (own_congr (F := F) (M := cM) c fullShare (a := st) (b := 0) rfl (by rw [e0]) (by rw [e0]))
  iexact H

/-- The sum of what came by transfer `n` and the next own chunk is stored where transfer `n + 4` takes it. -/
theorem st_sum {Q : α → sProp 𝕄} (n : ℕ)
    {off : Fin S4x4x256x256.rank → ℕ} (eo : off = ![n % 4, (n / 4 + 1) % 4, 0, 0]) {w : S1x1x256x256.Idx → Elt F .bf16}
    (ew : w = k0_pay12 (run X Y n (n / 4) (yL c)) (chunk X Y c n (jr c (n / 4 + 1))))
    {h : ∀ a, off a + S1x1x256x256.size a ≤ S4x4x256x256.size a} {hx : (cM.access (Rect.unit (s := S4x4x256x256) off S1x1x256x256.size h)).Stores Finset.univ}
    {hm : (Finset.univ : Finset (Rect.unit (s := S4x4x256x256) off S1x1x256x256.size h).shape.Idx) = Finset.univ ∨ ∀ a, (Rect.unit (s := S4x4x256x256) off S1x1x256x256.size h).stride a = 1}
    {p : PUnit → Prog (TpuEff nD τ sig (Elt F) Λ₀ .tc) α} :
    rcvY X Y c n
      ⊢ iprop((sndY X Y c (n + 4) -∗ wpc c (p ⟨⟩) Q)
        -∗ wpc c (.op (.store cM (Rect.unit (s := S4x4x256x256) off S1x1x256x256.size h) w Finset.univ hx hm) p) Q) := by
  subst ew
  have e : (n + 4) / 4 = n / 4 + 1 := by omega
  iintro H Hk
  iapply (st_slot (F := F) c cM n (n / 4 + 1) _ eo) $$ H
  iintro H
  iapply Hk
  iapply (own_congr (F := F) (M := cM) c fullShare (a := n) (b := n / 4 + 1) (by omega) (by rw [e])
    (by rw [e, run_mod X Y (show (n + 4) % 4 = n % 4 by omega)]))
  iexact H

/-- The finished chunk of column block `st` is stored in the device's own slot of the gather buffer. -/
theorem st_gather {Q : α → sProp 𝕄} (st : ℕ) (hst : st < 4) (v : Vec F S1x1x256x256 .bf16)
    {off : Fin S4x4x256x256.rank → ℕ} (eo : off = ![st, c.val % 4, 0, 0]) {w : S1x1x256x256.Idx → Elt F .bf16}
    (ew : w = k0_pay12 (run X Y (8 + st) 2 (yL c)) (chunk X Y c (8 + st) (jr c 3)))
    {h : ∀ a, off a + S1x1x256x256.size a ≤ S4x4x256x256.size a} {hx : (gM.access (Rect.unit (s := S4x4x256x256) off S1x1x256x256.size h)).Stores Finset.univ}
    {hm : (Finset.univ : Finset (Rect.unit (s := S4x4x256x256) off S1x1x256x256.size h).shape.Idx) = Finset.univ ∨ ∀ a, (Rect.unit (s := S4x4x256x256) off S1x1x256x256.size h).stride a = 1}
    {p : PUnit → Prog (TpuEff nD τ sig (Elt F) Λ₀ .tc) α} :
    gOwn c fullShare st (zq c 0) v
      ⊢ iprop((sndZ X Y c st -∗ wpc c (p ⟨⟩) Q)
        -∗ wpc c (.op (.store gM (Rect.unit (s := S4x4x256x256) off S1x1x256x256.size h) w Finset.univ hx hm) p) Q) := by
  subst ew
  have e0 : st / 4 = 0 := by omega
  have ez : zq c 0 = c.val % 4 := by unfold zq; omega
  iintro H Hk
  iapply (st_slot (F := F) c gM st (zq c 0) v (eo.trans (by rw [ez, Nat.mod_mod, Nat.mod_eq_of_lt hst]))) $$ H
  iintro H
  iapply Hk
  iapply (own_congr (F := F) (M := gM) c fullShare (a := st) (b := zq c 0) rfl (by rw [e0])
    (by
      rw [gVal, e0, ez, atZ_self, ← run_mod X Y (show (8 + st) % 4 = st % 4 by omega)]))
  iexact H

end Ops

/-! ## Waits for one slot -/

/-- Every slot counts the same. -/
theorem credit_c (o : Fin S4x4x256x256.rank → ℕ) (h : ∀ a, o a + S1x1x256x256.size a ≤ S4x4x256x256.size a) :
    (sq (cM.slice (Rect.unit (s := S4x4x256x256) o S1x1x256x256.size h) (fun _ => rfl))).view.dmaCredit = N := rfl
/-- A transfer into a gather slot credits `N`. -/
theorem credit_g (o : Fin S4x4x256x256.rank → ℕ) (h : ∀ a, o a + S1x1x256x256.size a ≤ S4x4x256x256.size a) :
    (sq (gM.slice (Rect.unit (s := S4x4x256x256) o S1x1x256x256.size h) (fun _ => rfl))).view.dmaCredit = N := rfl

/-- The wait for the chunk that comes from the left along y. -/
theorem wt_Y (c : Dev nD) {α : Type} {Q : α → sProp 𝕄} (k : ℕ) (hk : k < 12) {sy sz rz : ℕ} (hsy : k < sy) {sem : DmaSem sig} (es : sem = dS 1 k)
    {so do_ : Fin S4x4x256x256.rank → ℕ} {hs : ∀ a, so a + S1x1x256x256.size a ≤ S4x4x256x256.size a} {hd : ∀ a, do_ a + S1x1x256x256.size a ≤ S4x4x256x256.size a}
    {h1 : (sq (cM.slice (Rect.unit (s := S4x4x256x256) so S1x1x256x256.size hs) (fun _ => rfl))).view.WordExact}
    {h2 : (sq (cM.slice (Rect.unit (s := S4x4x256x256) do_ S1x1x256x256.size hd) (fun _ => rfl))).view.WordExact} {p : PUnit → Prog (TpuEff nD τ sig (Elt F) Λ₀ .tc) α} :
    St X Y K c sy k sz rz ⊢ iprop((St X Y K c sy (k + 1) sz rz -∗ rcvY X Y c k -∗ wpc c (p ⟨⟩) Q)
      -∗ wpc c (.op (.waitDma2 sem (sq (cM.slice (Rect.unit (s := S4x4x256x256) so S1x1x256x256.size hs) (fun _ => rfl))) (sq (cM.slice (Rect.unit (s := S4x4x256x256) do_ S1x1x256x256.size hd) (fun _ => rfl))) h1 h2) p) Q) :=
  mv_waitY X Y K c k hk hsy es (src := sq (cM.slice (Rect.unit (s := S4x4x256x256) so S1x1x256x256.size hs) (fun _ => rfl)))
    (dst := sq (cM.slice (Rect.unit (s := S4x4x256x256) do_ S1x1x256x256.size hd) (fun _ => rfl))) (h1 := h1) (h2 := h2) (credit_c do_ hd) (p := p)
/-- The wait for the slot that comes from the left along z. -/
theorem wt_Z (c : Dev nD) {α : Type} {Q : α → sProp 𝕄} (k : ℕ) (hk : k < 12) {ry sz : ℕ} (hsz : k < sz) {sem : DmaSem sig} (es : sem = dS 3 k)
    {so do_ : Fin S4x4x256x256.rank → ℕ} {hs : ∀ a, so a + S1x1x256x256.size a ≤ S4x4x256x256.size a} {hd : ∀ a, do_ a + S1x1x256x256.size a ≤ S4x4x256x256.size a}
    {h1 : (sq (gM.slice (Rect.unit (s := S4x4x256x256) so S1x1x256x256.size hs) (fun _ => rfl))).view.WordExact}
    {h2 : (sq (gM.slice (Rect.unit (s := S4x4x256x256) do_ S1x1x256x256.size hd) (fun _ => rfl))).view.WordExact} {p : PUnit → Prog (TpuEff nD τ sig (Elt F) Λ₀ .tc) α} :
    St X Y K c 12 ry sz k ⊢ iprop((St X Y K c 12 ry sz (k + 1) -∗ rcvZ X Y c k -∗ wpc c (p ⟨⟩) Q)
      -∗ wpc c (.op (.waitDma2 sem (sq (gM.slice (Rect.unit (s := S4x4x256x256) so S1x1x256x256.size hs) (fun _ => rfl))) (sq (gM.slice (Rect.unit (s := S4x4x256x256) do_ S1x1x256x256.size hd) (fun _ => rfl))) h1 h2) p) Q) :=
  mv_waitZ X Y K c k hk hsz es (src := sq (gM.slice (Rect.unit (s := S4x4x256x256) so S1x1x256x256.size hs) (fun _ => rfl)))
    (dst := sq (gM.slice (Rect.unit (s := S4x4x256x256) do_ S1x1x256x256.size hd) (fun _ => rfl))) (h1 := h1) (h2 := h2) (credit_g do_ hd) (p := p)
/-- The wait for a transfer sent along y. -/
theorem bk_Y (c : Dev nD) {α : Type} {Q : α → sProp 𝕄} (k : ℕ) (hk : k < 12) {bz : ℕ} {sem : DmaSem sig} (es : sem = dS 0 k)
    {so do_ : Fin S4x4x256x256.rank → ℕ} {hs : ∀ a, so a + S1x1x256x256.size a ≤ S4x4x256x256.size a} {hd : ∀ a, do_ a + S1x1x256x256.size a ≤ S4x4x256x256.size a}
    {h1 : (sq (cM.slice (Rect.unit (s := S4x4x256x256) so S1x1x256x256.size hs) (fun _ => rfl))).view.WordExact}
    {h2 : (sq (cM.slice (Rect.unit (s := S4x4x256x256) do_ S1x1x256x256.size hd) (fun _ => rfl))).view.WordExact} {p : PUnit → Prog (TpuEff nD τ sig (Elt F) Λ₀ .tc) α} :
    Fn X Y K c k bz ⊢ iprop((Fn X Y K c (k + 1) bz -∗ wpc c (p ⟨⟩) Q) -∗ wpc c (.op (.waitDma2 sem (sq (cM.slice (Rect.unit (s := S4x4x256x256) so S1x1x256x256.size hs) (fun _ => rfl))) (sq (cM.slice (Rect.unit (s := S4x4x256x256) do_ S1x1x256x256.size hd) (fun _ => rfl))) h1 h2) p) Q) :=
  mv_backY X Y K c k hk es (src := sq (cM.slice (Rect.unit (s := S4x4x256x256) so S1x1x256x256.size hs) (fun _ => rfl)))
    (dst := sq (cM.slice (Rect.unit (s := S4x4x256x256) do_ S1x1x256x256.size hd) (fun _ => rfl))) (h1 := h1) (h2 := h2) (credit_c do_ hd) (p := p)
/-- The wait for a transfer sent along z. -/
theorem bk_Z (c : Dev nD) {α : Type} {Q : α → sProp 𝕄} (k : ℕ) (hk : k < 12) {by' : ℕ} {sem : DmaSem sig} (es : sem = dS 2 k)
    {so do_ : Fin S4x4x256x256.rank → ℕ} {hs : ∀ a, so a + S1x1x256x256.size a ≤ S4x4x256x256.size a} {hd : ∀ a, do_ a + S1x1x256x256.size a ≤ S4x4x256x256.size a}
    {h1 : (sq (gM.slice (Rect.unit (s := S4x4x256x256) so S1x1x256x256.size hs) (fun _ => rfl))).view.WordExact}
    {h2 : (sq (gM.slice (Rect.unit (s := S4x4x256x256) do_ S1x1x256x256.size hd) (fun _ => rfl))).view.WordExact} {p : PUnit → Prog (TpuEff nD τ sig (Elt F) Λ₀ .tc) α} :
    Fn X Y K c by' k ⊢ iprop((Fn X Y K c by' (k + 1) -∗ wpc c (p ⟨⟩) Q) -∗ wpc c (.op (.waitDma2 sem (sq (gM.slice (Rect.unit (s := S4x4x256x256) so S1x1x256x256.size hs) (fun _ => rfl))) (sq (gM.slice (Rect.unit (s := S4x4x256x256) do_ S1x1x256x256.size hd) (fun _ => rfl))) h1 h2) p) Q) :=
  mv_backZ X Y K c k hk es (src := sq (gM.slice (Rect.unit (s := S4x4x256x256) so S1x1x256x256.size hs) (fun _ => rfl)))
    (dst := sq (gM.slice (Rect.unit (s := S4x4x256x256) do_ S1x1x256x256.size hd) (fun _ => rfl))) (h1 := h1) (h2 := h2) (credit_g do_ hd) (p := p)

/-! ## The end of the exchange -/

/-- The slots received last along z, and the chunks received last along y: `k` of each. -/
def lastZ (c : Dev nD) (k : ℕ) : sProp 𝕄 := bigSep (Finset.range k) fun st => rcvZ X Y c (8 + st)

/-- At first no slot received last is there. -/
theorem lastZ_zero (c : Dev nD) : (emp : sProp 𝕄) ⊢ lastZ X Y c 0 := by
  have e : lastZ X Y c 0 = iprop(emp) := by unfold lastZ; rw [Finset.range_zero, bigSep_empty]; rfl
  rw [e]
/-- One more slot received last. -/
theorem lastZ_add (c : Dev nD) (k : ℕ) : iprop(lastZ X Y c k ∗ rcvZ X Y c (8 + k)) ⊢ lastZ X Y c (k + 1) := by
  have e : lastZ X Y c (k + 1) = iprop(rcvZ X Y c (8 + k) ∗ lastZ X Y c k) := by
    unfold lastZ; rw [Finset.range_add_one, bigSep_insert Finset.notMem_range_self]; rfl
  rw [e]
  iintro ⟨H, H2⟩
  isplitl [H2]; · iexact H2
  iexact H

/-- When all is sent and received nothing is owed. -/
theorem St_end (c : Dev nD) : St X Y K c 12 12 12 12 ⊢ Fn X Y K c 0 0 := by
  rw [St_eq, Fn_eq, prog_all, prog_zero, prog_all 12 (todoZ c), prog_zero 12 (goneZ X Y c), due_end]
  iintro ⟨#Hi, -, HP, HR, HPz, HRz, HO⟩
  isplitr; · iexact Hi
  isplitl [HP]; · iexact HP
  isplitl [HR]; · iexact HR
  isplitl [HPz]; · iexact HPz
  isplitl [HRz]; · iexact HRz
  iexact HO

/-- A slot of the gathered buffer, whichever device along z it came from, is loaded. -/
theorem ld_gathered (c : Dev nD) {α : Type} {Q : α → sProp 𝕄} (b : ℕ) (hb : b < 16)
    {off : Fin S4x4x256x256.rank → ℕ} (eo : off = ![b % 4, b / 4, 0, 0])
    {h : ∀ a, off a + S1x1x256x256.size a ≤ S4x4x256x256.size a} {hl : gM.view.LoadsAt (Rect.unit (s := S4x4x256x256) off S1x1x256x256.size h).toLoadRect}
    {p : (S1x1x256x256.Idx → Elt F .bf16) → Prog (TpuEff nD τ sig (Elt F) Λ₀ .tc) α} :
    iprop(Fn X Y K c 0 0 ∗ lastZ X Y c 4)
      ⊢ iprop((Fn X Y K c 0 0 -∗ lastZ X Y c 4 -∗ wpc c (p (run X Y (b % 4) 3 (atZ c (b / 4)))) Q)
        -∗ wpc c (.op (.load gM (Rect.unit (s := S4x4x256x256) off S1x1x256x256.size h).toLoadRect hl) p) Q) := by
  -- the gather step at which the block's slot came
  obtain ⟨t, ht⟩ : ∃ t, t = (c.val % 4 + 4 - b / 4) % 4 := ⟨_, rfl⟩
  have ht4 : t < 4 := by omega
  have hz : zq c t = b / 4 := by unfold zq; omega
  have hn4 : (4 * t + b % 4) / 4 = t := by omega
  have hoff : off = ![(4 * t + b % 4) % 4, zq c t % 4, 0, 0] := by
    rw [eo, hz, show (4 * t + b % 4) % 4 = b % 4 by omega, Nat.mod_eq_of_lt (show b / 4 < 4 by omega)]
  rw [← hz, ← run_mod X Y (show (4 * t + b % 4) % 4 = b % 4 % 4 by omega)]
  by_cases h3 : t < 3
  · rw [Fn_eq]
    iintro ⟨⟨#Hi, HP, HR, HPz, HRz, HO⟩, HL⟩ Hk
    ihave HPz := (Entails.of_eq (prog_zero 12 (goneZ X Y c) (backZ X Y c))) $$ HPz
    ihave HPz := (pick (F := F) (i := 4 * t + b % 4) (Finset.mem_range.mpr (show 4 * t + b % 4 < 12 by omega)) (goneZ X Y c)) $$ HPz
    icases HPz with ⟨HT, HPz⟩
    ihave HT := (Entails.of_eq (goneZ_eq X Y c _)) $$ HT
    icases HT with ⟨Hat, Hc, Hs⟩
    iapply (ld_slot (F := F) c gM fullShare.right (4 * t + b % 4) (zq c ((4 * t + b % 4) / 4)) (gVal X Y c (4 * t + b % 4))
      (hoff.trans (by rw [hn4]))) $$ Hs
    iintro Hs
    rw [gVal, hn4]
    iapply Hk $$ [HP HR HPz HRz HO Hat Hc Hs] HL
    isplitr; · iexact Hi
    isplitl [HP]; · iexact HP
    isplitl [HR]; · iexact HR
    isplitl [HPz Hat Hc Hs]
    · iapply (Entails.of_eq (prog_zero 12 (goneZ X Y c) (backZ X Y c)).symm)
      iapply HPz
      iapply (Entails.of_eq (goneZ_eq X Y c _).symm)
      isplitl [Hat]; · iexact Hat
      isplitl [Hc]; · iexact Hc
      rw [gVal, hn4]
      iexact Hs
    isplitl [HRz]; · iexact HRz
    iexact HO
  · have h3 : t = 3 := by omega
    have hn : 4 * t + b % 4 = 8 + b % 4 + 4 := by omega
    have hn8 : (8 + b % 4) / 4 + 1 = t := by omega
    unfold lastZ
    iintro ⟨HF, HL⟩ Hk
    ihave HL := (pick (F := F) (i := b % 4) (Finset.mem_range.mpr (show b % 4 < 4 by omega)) (fun st => rcvZ X Y c (8 + st))) $$ HL
    icases HL with ⟨Hs, HL⟩
    iapply (ld_slot (F := F) c gM fullShare (8 + b % 4) (zq c ((8 + b % 4) / 4 + 1)) (run X Y (8 + b % 4) 3 (atZ c (zq c ((8 + b % 4) / 4 + 1))))
      (hoff.trans (by rw [hn8, show (8 + b % 4) % 4 = (4 * t + b % 4) % 4 by omega]))) $$ Hs
    iintro Hs
    rw [hn8, run_mod X Y (show (8 + b % 4) % 4 = (4 * t + b % 4) % 4 by omega)]
    iapply Hk $$ HF [Hs HL]
    iapply HL
    unfold rcvZ
    rw [hn8, run_mod X Y (show (8 + b % 4) % 4 = (4 * t + b % 4) % 4 by omega)]
    iexact Hs

/-- All four of the slots received last along z. -/
theorem lastZ_four (c : Dev nD) : iprop(rcvZ X Y c 8 ∗ rcvZ X Y c 9 ∗ rcvZ X Y c 10 ∗ rcvZ X Y c 11) ⊢ lastZ X Y c 4 := by
  iintro ⟨H0, H1, H2, H3⟩
  iapply (lastZ_add X Y c 3)
  isplitr [H3]
  · iapply (lastZ_add X Y c 2)
    isplitr [H2]
    · iapply (lastZ_add X Y c 1)
      isplitr [H1]
      · iapply (lastZ_add X Y c 0)
        isplitr [H0]
        · iapply (lastZ_zero X Y c)
          iempintro
        iexact H0
      iexact H1
    iexact H2
  iexact H3

/-! ## The printed offsets: of the accumulator's chunks, of the gather buffer's slots -/

/-- The offset of the accumulator's block read at step 0 along `y`, in column block 0. -/
theorem aoff0_0 (c : Dev nD) : k0_off1 c 3#32 = ![256 * (jr c 0 % 4), 256 * (0 % 4)] :=
  (k0_off1_eq c 0).trans (congrArg (fun t => ![256 * t, 0]) (by unfold jr; show (c.val / 4 % 4 + 0 + 3) % 4 = _; omega))
/-- The offset of the accumulator's block read at step 1 along `y`, in column block 0. -/
theorem aoff0_1 (c : Dev nD) : k0_off1 c 6#32 = ![256 * (jr c 1 % 4), 256 * (0 % 4)] :=
  (k0_off1_eq c 3).trans (congrArg (fun t => ![256 * t, 0]) (by unfold jr; show (c.val / 4 % 4 + 3 + 3) % 4 = _; omega))
/-- The offset of the accumulator's block read at step 2 along `y`, in column block 0. -/
theorem aoff0_2 (c : Dev nD) : k0_off1 c 5#32 = ![256 * (jr c 2 % 4), 256 * (4 % 4)] :=
  (k0_off1_eq c 2).trans (congrArg (fun t => ![256 * t, 0]) (by unfold jr; show (c.val / 4 % 4 + 2 + 3) % 4 = _; omega))
/-- The offset of the accumulator's block read at step 3 along `y`, in column block 0. -/
theorem aoff0_3 (c : Dev nD) : k0_off1 c 4#32 = ![256 * (jr c 3 % 4), 256 * (8 % 4)] :=
  (k0_off1_eq c 1).trans (congrArg (fun t => ![256 * t, 0]) (by unfold jr; show (c.val / 4 % 4 + 1 + 3) % 4 = _; omega))
/-- The offset of the accumulator's block read at step 0 along `y`, in column block 1. -/
theorem aoff1_0 (c : Dev nD) : k0_off2 c 3#32 = ![256 * (jr c 0 % 4), 256 * (1 % 4)] :=
  (k0_off2_eq c 0).trans (congrArg (fun t => ![256 * t, 256]) (by unfold jr; show (c.val / 4 % 4 + 0 + 3) % 4 = _; omega))
/-- The offset of the accumulator's block read at step 1 along `y`, in column block 1. -/
theorem aoff1_1 (c : Dev nD) : k0_off2 c 6#32 = ![256 * (jr c 1 % 4), 256 * (1 % 4)] :=
  (k0_off2_eq c 3).trans (congrArg (fun t => ![256 * t, 256]) (by unfold jr; show (c.val / 4 % 4 + 3 + 3) % 4 = _; omega))
/-- The offset of the accumulator's block read at step 2 along `y`, in column block 1. -/
theorem aoff1_2 (c : Dev nD) : k0_off2 c 5#32 = ![256 * (jr c 2 % 4), 256 * (5 % 4)] :=
  (k0_off2_eq c 2).trans (congrArg (fun t => ![256 * t, 256]) (by unfold jr; show (c.val / 4 % 4 + 2 + 3) % 4 = _; omega))
/-- The offset of the accumulator's block read at step 3 along `y`, in column block 1. -/
theorem aoff1_3 (c : Dev nD) : k0_off2 c 4#32 = ![256 * (jr c 3 % 4), 256 * (9 % 4)] :=
  (k0_off2_eq c 1).trans (congrArg (fun t => ![256 * t, 256]) (by unfold jr; show (c.val / 4 % 4 + 1 + 3) % 4 = _; omega))
/-- The offset of the accumulator's block read at step 0 along `y`, in column block 2. -/
theorem aoff2_0 (c : Dev nD) : k0_off3 c 3#32 = ![256 * (jr c 0 % 4), 256 * (2 % 4)] :=
  (k0_off3_eq c 0).trans (congrArg (fun t => ![256 * t, 512]) (by unfold jr; show (c.val / 4 % 4 + 0 + 3) % 4 = _; omega))
/-- The offset of the accumulator's block read at step 1 along `y`, in column block 2. -/
theorem aoff2_1 (c : Dev nD) : k0_off3 c 6#32 = ![256 * (jr c 1 % 4), 256 * (2 % 4)] :=
  (k0_off3_eq c 3).trans (congrArg (fun t => ![256 * t, 512]) (by unfold jr; show (c.val / 4 % 4 + 3 + 3) % 4 = _; omega))
/-- The offset of the accumulator's block read at step 2 along `y`, in column block 2. -/
theorem aoff2_2 (c : Dev nD) : k0_off3 c 5#32 = ![256 * (jr c 2 % 4), 256 * (6 % 4)] :=
  (k0_off3_eq c 2).trans (congrArg (fun t => ![256 * t, 512]) (by unfold jr; show (c.val / 4 % 4 + 2 + 3) % 4 = _; omega))
/-- The offset of the accumulator's block read at step 3 along `y`, in column block 2. -/
theorem aoff2_3 (c : Dev nD) : k0_off3 c 4#32 = ![256 * (jr c 3 % 4), 256 * (10 % 4)] :=
  (k0_off3_eq c 1).trans (congrArg (fun t => ![256 * t, 512]) (by unfold jr; show (c.val / 4 % 4 + 1 + 3) % 4 = _; omega))
/-- The offset of the accumulator's block read at step 0 along `y`, in column block 3. -/
theorem aoff3_0 (c : Dev nD) : k0_off4 c 3#32 = ![256 * (jr c 0 % 4), 256 * (3 % 4)] :=
  (k0_off4_eq c 0).trans (congrArg (fun t => ![256 * t, 768]) (by unfold jr; show (c.val / 4 % 4 + 0 + 3) % 4 = _; omega))
/-- The offset of the accumulator's block read at step 1 along `y`, in column block 3. -/
theorem aoff3_1 (c : Dev nD) : k0_off4 c 6#32 = ![256 * (jr c 1 % 4), 256 * (3 % 4)] :=
  (k0_off4_eq c 3).trans (congrArg (fun t => ![256 * t, 768]) (by unfold jr; show (c.val / 4 % 4 + 3 + 3) % 4 = _; omega))
/-- The offset of the accumulator's block read at step 2 along `y`, in column block 3. -/
theorem aoff3_2 (c : Dev nD) : k0_off4 c 5#32 = ![256 * (jr c 2 % 4), 256 * (7 % 4)] :=
  (k0_off4_eq c 2).trans (congrArg (fun t => ![256 * t, 768]) (by unfold jr; show (c.val / 4 % 4 + 2 + 3) % 4 = _; omega))
/-- The offset of the accumulator's block read at step 3 along `y`, in column block 3. -/
theorem aoff3_3 (c : Dev nD) : k0_off4 c 4#32 = ![256 * (jr c 3 % 4), 256 * (11 % 4)] :=
  (k0_off4_eq c 1).trans (congrArg (fun t => ![256 * t, 768]) (by unfold jr; show (c.val / 4 % 4 + 1 + 3) % 4 = _; omega))
/-- The offset of the gather slot that is filled with column block 0. -/
theorem goff0 (c : Dev nD) : k0_off5 c = ![0 % 4, zq c 0 % 4, 0, 0] :=
  (k0_off5_eq c).trans (congrArg (fun t => ![0, t, 0, 0]) (by unfold zq; omega))
/-- The offset of the gather slot that is filled with column block 1. -/
theorem goff1 (c : Dev nD) : k0_off7 c = ![1 % 4, zq c 0 % 4, 0, 0] :=
  (k0_off7_eq c).trans (congrArg (fun t => ![1, t, 0, 0]) (by unfold zq; omega))
/-- The offset of the gather slot that is filled with column block 2. -/
theorem goff2 (c : Dev nD) : k0_off9 c = ![2 % 4, zq c 0 % 4, 0, 0] :=
  (k0_off9_eq c).trans (congrArg (fun t => ![2, t, 0, 0]) (by unfold zq; omega))
/-- The offset of the gather slot that is filled with column block 3. -/
theorem goff3 (c : Dev nD) : k0_off11 c = ![3 % 4, zq c 0 % 4, 0, 0] :=
  (k0_off11_eq c).trans (congrArg (fun t => ![3, t, 0, 0]) (by unfold zq; omega))
/-- The offset of the gather slot that transfer 0 along `z` sends. -/
theorem zoff0_0 (c : Dev nD) : k0_off6 c 4#32 = ![0 % 4, zq c (0 / 4) % 4, 0, 0] :=
  (k0_off6_eq c 2).trans (congrArg (fun t => ![0, t, 0, 0]) (by unfold zq; show (c.val % 4 + 2 + 2) % 4 = _; omega))
/-- The offset of the gather slot that transfer 4 along `z` sends. -/
theorem zoff0_1 (c : Dev nD) : k0_off6 c 3#32 = ![4 % 4, zq c (4 / 4) % 4, 0, 0] :=
  (k0_off6_eq c 1).trans (congrArg (fun t => ![0, t, 0, 0]) (by unfold zq; show (c.val % 4 + 1 + 2) % 4 = _; omega))
/-- The offset of the gather slot that transfer 8 along `z` sends. -/
theorem zoff0_2 (c : Dev nD) : k0_off6 c 2#32 = ![8 % 4, zq c (8 / 4) % 4, 0, 0] :=
  (k0_off6_eq c 0).trans (congrArg (fun t => ![0, t, 0, 0]) (by unfold zq; show (c.val % 4 + 0 + 2) % 4 = _; omega))
/-- The offset of the gather slot that transfer 1 along `z` sends. -/
theorem zoff1_0 (c : Dev nD) : k0_off8 c 4#32 = ![1 % 4, zq c (1 / 4) % 4, 0, 0] :=
  (k0_off8_eq c 2).trans (congrArg (fun t => ![1, t, 0, 0]) (by unfold zq; show (c.val % 4 + 2 + 2) % 4 = _; omega))
/-- The offset of the gather slot that transfer 5 along `z` sends. -/
theorem zoff1_1 (c : Dev nD) : k0_off8 c 3#32 = ![5 % 4, zq c (5 / 4) % 4, 0, 0] :=
  (k0_off8_eq c 1).trans (congrArg (fun t => ![1, t, 0, 0]) (by unfold zq; show (c.val % 4 + 1 + 2) % 4 = _; omega))
/-- The offset of the gather slot that transfer 9 along `z` sends. -/
theorem zoff1_2 (c : Dev nD) : k0_off8 c 2#32 = ![9 % 4, zq c (9 / 4) % 4, 0, 0] :=
  (k0_off8_eq c 0).trans (congrArg (fun t => ![1, t, 0, 0]) (by unfold zq; show (c.val % 4 + 0 + 2) % 4 = _; omega))
/-- The offset of the gather slot that transfer 2 along `z` sends. -/
theorem zoff2_0 (c : Dev nD) : k0_off10 c 4#32 = ![2 % 4, zq c (2 / 4) % 4, 0, 0] :=
  (k0_off10_eq c 2).trans (congrArg (fun t => ![2, t, 0, 0]) (by unfold zq; show (c.val % 4 + 2 + 2) % 4 = _; omega))
/-- The offset of the gather slot that transfer 6 along `z` sends. -/
theorem zoff2_1 (c : Dev nD) : k0_off10 c 3#32 = ![6 % 4, zq c (6 / 4) % 4, 0, 0] :=
  (k0_off10_eq c 1).trans (congrArg (fun t => ![2, t, 0, 0]) (by unfold zq; show (c.val % 4 + 1 + 2) % 4 = _; omega))
/-- The offset of the gather slot that transfer 10 along `z` sends. -/
theorem zoff2_2 (c : Dev nD) : k0_off10 c 2#32 = ![10 % 4, zq c (10 / 4) % 4, 0, 0] :=
  (k0_off10_eq c 0).trans (congrArg (fun t => ![2, t, 0, 0]) (by unfold zq; show (c.val % 4 + 0 + 2) % 4 = _; omega))
/-- The offset of the gather slot that transfer 3 along `z` sends. -/
theorem zoff3_0 (c : Dev nD) : k0_off12 c 4#32 = ![3 % 4, zq c (3 / 4) % 4, 0, 0] :=
  (k0_off12_eq c 2).trans (congrArg (fun t => ![3, t, 0, 0]) (by unfold zq; show (c.val % 4 + 2 + 2) % 4 = _; omega))
/-- The offset of the gather slot that transfer 7 along `z` sends. -/
theorem zoff3_1 (c : Dev nD) : k0_off12 c 3#32 = ![7 % 4, zq c (7 / 4) % 4, 0, 0] :=
  (k0_off12_eq c 1).trans (congrArg (fun t => ![3, t, 0, 0]) (by unfold zq; show (c.val % 4 + 1 + 2) % 4 = _; omega))
/-- The offset of the gather slot that transfer 11 along `z` sends. -/
theorem zoff3_2 (c : Dev nD) : k0_off12 c 2#32 = ![11 % 4, zq c (11 / 4) % 4, 0, 0] :=
  (k0_off12_eq c 0).trans (congrArg (fun t => ![3, t, 0, 0]) (by unfold zq; show (c.val % 4 + 0 + 2) % 4 = _; omega))

end Cert.Ring
-- ==== Proof.PartsY.lean ====
/-
  The parts of the body that multiply, reduce and scatter along y: each from what it needs to what it leaves.
-/
module

public import proofs.«01_k».proof.Proof.Kit

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (X Y : Dev nD → Vec F S1024x1024 .bf16) (K : GSem nD τ sig → ℕ) (c : Dev nD)

/-- Part 3 of the body. -/
theorem part_3 {Q : _ → sProp 𝕄} (i : grid0.Coords) (v2 : BitVec 32) (v8 : BitVec 32) (v12 : BitVec 32) (v45 : BitVec 32) :
    iprop(sndY X Y c 0 ∗ St X Y K c 0 0 0 0 ∗ owns (c : Thread nD τ) yM fullShare (Y c) ∗ acc X Y c 1 ∗ emC (F := F) c 1)
      ⊢ iprop((owns (c : Thread nD τ) yM fullShare (Y c) -∗ acc X Y c 2 -∗ St X Y K c 1 0 0 0 -∗ sndY X Y c 1 -∗ Q ⟨⟩)
        -∗ wpc c (k0_part3 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v8 v12 (k0_pay1 (X c)) v45) Q) := by
  rw [k0_part3_eq_skeleton]
  unfold k0_part3_skel
  simp only [Prog.lift, Prog.bind_op, Prog.bind_ret, Prog.pure_eq_ret]
  iintro ⟨HC00, HS, HY, HA, HC10⟩ Hk
  iapply (mv_sendY (F := F) X Y K c 0 (by decide) rfl rfl rfl rfl (Fin.ext (k0_dev5_eq c))) $$ [HS HC00]
  · isplitl [HS]; · iexact HS
    iexact HC00
  iintro HS
  iapply (ld_y (F := F) c (Y c) 1 rfl) $$ HY
  iintro HY
  iapply (wp_ld_dead (F := F) c aM) $$ HA
  iintro HA
  iapply (st_acc (F := F) X Y c 1 (by decide) rfl rfl) $$ HA
  iintro HA
  iapply (ld_chunk (F := F) X Y c 1 0 2 (by decide) (aoff1_0 c)) $$ HA
  iintro HA
  icases HC10 with ⟨%eC10, HC10⟩
  iapply (ld_slot (F := F) c cM fullShare 1 0 _ rfl) $$ HC10
  iintro HC10
  iapply (st_first (F := F) X Y c 1 (by decide) _ rfl rfl) $$ HC10
  iintro HC10
  iapply (wpc_ret (F := F) c)
  iapply Hk $$ HY HA HS HC10

/-- Part 4 of the body. -/
theorem part_4 {Q : _ → sProp 𝕄} (i : grid0.Coords) (v2 : BitVec 32) (v8 : BitVec 32) (v12 : BitVec 32) (v45 : BitVec 32) :
    iprop(sndY X Y c 1 ∗ St X Y K c 1 0 0 0 ∗ owns (c : Thread nD τ) yM fullShare (Y c) ∗ acc X Y c 2 ∗ emC (F := F) c 2)
      ⊢ iprop((owns (c : Thread nD τ) yM fullShare (Y c) -∗ acc X Y c 3 -∗ St X Y K c 2 0 0 0 -∗ sndY X Y c 2 -∗ Q ⟨⟩)
        -∗ wpc c (k0_part4 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v8 v12 (k0_pay1 (X c)) v45) Q) := by
  rw [k0_part4_eq_skeleton]
  unfold k0_part4_skel
  simp only [Prog.lift, Prog.bind_op, Prog.bind_ret, Prog.pure_eq_ret]
  iintro ⟨HC10, HS, HY, HA, HC20⟩ Hk
  iapply (mv_sendY (F := F) X Y K c 1 (by decide) rfl rfl rfl rfl (Fin.ext (k0_dev6_eq c))) $$ [HS HC10]
  · isplitl [HS]; · iexact HS
    iexact HC10
  iintro HS
  iapply (ld_y (F := F) c (Y c) 2 rfl) $$ HY
  iintro HY
  iapply (wp_ld_dead (F := F) c aM) $$ HA
  iintro HA
  iapply (st_acc (F := F) X Y c 2 (by decide) rfl rfl) $$ HA
  iintro HA
  iapply (ld_chunk (F := F) X Y c 2 0 3 (by decide) (aoff2_0 c)) $$ HA
  iintro HA
  icases HC20 with ⟨%eC20, HC20⟩
  iapply (ld_slot (F := F) c cM fullShare 2 0 _ rfl) $$ HC20
  iintro HC20
  iapply (st_first (F := F) X Y c 2 (by decide) _ rfl rfl) $$ HC20
  iintro HC20
  iapply (wpc_ret (F := F) c)
  iapply Hk $$ HY HA HS HC20

/-- Part 5 of the body. -/
theorem part_5 {Q : _ → sProp 𝕄} (i : grid0.Coords) (v2 : BitVec 32) (v8 : BitVec 32) (v12 : BitVec 32) (v45 : BitVec 32) :
    iprop(sndY X Y c 2 ∗ St X Y K c 2 0 0 0 ∗ owns (c : Thread nD τ) yM fullShare (Y c) ∗ acc X Y c 3 ∗ emC (F := F) c 3)
      ⊢ iprop((∀ (w0 : BitVec 32), owns (c : Thread nD τ) yM fullShare (Y c) -∗ acc X Y c 4 -∗ St X Y K c 3 0 0 0 -∗ sndY X Y c 3 -∗ Q w0)
        -∗ wpc c (k0_part5 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v8 v12 (k0_pay1 (X c)) v45) Q) := by
  rw [k0_part5_eq_skeleton]
  unfold k0_part5_skel
  simp only [Prog.lift, Prog.bind_op, Prog.bind_ret, Prog.pure_eq_ret]
  iintro ⟨HC20, HS, HY, HA, HC30⟩ Hk
  iapply (mv_sendY (F := F) X Y K c 2 (by decide) rfl rfl rfl rfl (Fin.ext (k0_dev7_eq c))) $$ [HS HC20]
  · isplitl [HS]; · iexact HS
    iexact HC20
  iintro HS
  iapply (ld_y (F := F) c (Y c) 3 rfl) $$ HY
  iintro HY
  iapply (wp_ld_dead (F := F) c aM) $$ HA
  iintro HA
  iapply (st_acc (F := F) X Y c 3 (by decide) rfl rfl) $$ HA
  iintro HA
  iapply (ld_chunk (F := F) X Y c 3 0 4 (by decide) (aoff3_0 c)) $$ HA
  iintro HA
  icases HC30 with ⟨%eC30, HC30⟩
  iapply (ld_slot (F := F) c cM fullShare 3 0 _ rfl) $$ HC30
  iintro HC30
  iapply (st_first (F := F) X Y c 3 (by decide) _ rfl rfl) $$ HC30
  iintro HC30
  iapply (wpc_ret (F := F) c)
  iapply Hk $$ %_ HY HA HS HC30

/-- Part 6 of the body. -/
theorem part_6 {Q : _ → sProp 𝕄} (i : grid0.Coords) (v2 : BitVec 32) (v5 : BitVec 32) (v8 : BitVec 32) (v12 : BitVec 32) (v140 : BitVec 32) :
    iprop(sndY X Y c 3 ∗ St X Y K c 3 0 0 0)
      ⊢ iprop((∀ (w0 : BitVec 32), St X Y K c 4 1 0 0 -∗ rcvY X Y c 0 -∗ Q ⟨w0, (k0_pay10 (run X Y 0 0 (yL c)))⟩)
        -∗ wpc c (k0_part6 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v12 v140) Q) := by
  rw [k0_part6_eq_skeleton]
  unfold k0_part6_skel
  simp only [Prog.lift, Prog.bind_op, Prog.bind_ret, Prog.pure_eq_ret]
  iintro ⟨HC30, HS⟩ Hk
  iapply (mv_sendY (F := F) X Y K c 3 (by decide) rfl rfl rfl rfl (Fin.ext (k0_dev8_eq c))) $$ [HS HC30]
  · isplitl [HS]; · iexact HS
    iexact HC30
  iintro HS
  iapply (wt_Y (F := F) X Y K c 0 (by decide) (by decide) rfl) $$ HS
  iintro HS HC01
  iapply (ld_slot (F := F) c cM fullShare 0 1 _ rfl) $$ HC01
  iintro HC01
  iapply (wpc_ret (F := F) c)
  iapply Hk $$ %_ HS HC01

/-- Part 7 of the body. -/
theorem part_7 {Q : _ → sProp 𝕄} (i : grid0.Coords) (v2 : BitVec 32) (v8 : BitVec 32) (v12 : BitVec 32) (v155 : BitVec 32) :
    iprop(acc X Y c 4 ∗ rcvY X Y c 0 ∗ St X Y K c 4 1 0 0)
      ⊢ iprop((∀ (w0 : BitVec 32) (w1 : BitVec 32), acc X Y c 4 -∗ St X Y K c 5 1 0 0 -∗ Q ⟨w0, w1⟩)
        -∗ wpc c (k0_part7 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v8 v12 v155 (k0_pay10 (run X Y 0 0 (yL c)))) Q) := by
  rw [k0_part7_eq_skeleton]
  unfold k0_part7_skel
  simp only [Prog.lift, Prog.bind_op, Prog.bind_ret, Prog.pure_eq_ret]
  iintro ⟨HA, HC01, HS⟩ Hk
  iapply (ld_chunk (F := F) X Y c 0 1 4 (by decide) (aoff0_1 c)) $$ HA
  iintro HA
  iapply (ld_slot (F := F) c cM fullShare 0 1 _ rfl) $$ HC01
  iintro HC01
  iapply (st_sum (F := F) X Y c 0 rfl rfl) $$ HC01
  iintro HC01
  iapply (mv_sendY (F := F) X Y K c 4 (by decide) rfl rfl rfl rfl (Fin.ext (k0_dev9_eq c))) $$ [HS HC01]
  · isplitl [HS]; · iexact HS
    iexact HC01
  iintro HS
  iapply (wpc_ret (F := F) c)
  iapply Hk $$ %_ %_ HA HS

/-- Part 8 of the body. -/
theorem part_8 {Q : _ → sProp 𝕄} (i : grid0.Coords) (v2 : BitVec 32) (v8 : BitVec 32) (v12 : BitVec 32) (v155 : BitVec 32) (v194 : BitVec 32) (c4_i32_185 : BitVec 32) :
    iprop(St X Y K c 5 1 0 0 ∗ acc X Y c 4)
      ⊢ iprop((acc X Y c 4 -∗ St X Y K c 5 2 0 0 -∗ sndY X Y c 5 -∗ Q ⟨⟩)
        -∗ wpc c (k0_part8 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v8 v12 v155 v194 c4_i32_185) Q) := by
  rw [k0_part8_eq_skeleton]
  unfold k0_part8_skel
  simp only [Prog.lift, Prog.bind_op, Prog.bind_ret, Prog.pure_eq_ret]
  iintro ⟨HS, HA⟩ Hk
  iapply (wt_Y (F := F) X Y K c 1 (by decide) (by decide) rfl) $$ HS
  iintro HS HC11
  iapply (ld_slot (F := F) c cM fullShare 1 1 _ rfl) $$ HC11
  iintro HC11
  iapply (ld_chunk (F := F) X Y c 1 1 4 (by decide) (aoff1_1 c)) $$ HA
  iintro HA
  iapply (ld_slot (F := F) c cM fullShare 1 1 _ rfl) $$ HC11
  iintro HC11
  iapply (st_sum (F := F) X Y c 1 rfl rfl) $$ HC11
  iintro HC11
  iapply (wpc_ret (F := F) c)
  iapply Hk $$ HA HS HC11

/-- Part 9 of the body. -/
theorem part_9 {Q : _ → sProp 𝕄} (i : grid0.Coords) (v2 : BitVec 32) (v8 : BitVec 32) (v12 : BitVec 32) (v155 : BitVec 32) :
    iprop(sndY X Y c 5 ∗ St X Y K c 5 2 0 0 ∗ acc X Y c 4)
      ⊢ iprop((acc X Y c 4 -∗ St X Y K c 6 3 0 0 -∗ sndY X Y c 6 -∗ Q ⟨⟩)
        -∗ wpc c (k0_part9 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v8 v12 v155) Q) := by
  rw [k0_part9_eq_skeleton]
  unfold k0_part9_skel
  simp only [Prog.lift, Prog.bind_op, Prog.bind_ret, Prog.pure_eq_ret]
  iintro ⟨HC11, HS, HA⟩ Hk
  iapply (mv_sendY (F := F) X Y K c 5 (by decide) rfl rfl rfl rfl (Fin.ext (k0_dev10_eq c))) $$ [HS HC11]
  · isplitl [HS]; · iexact HS
    iexact HC11
  iintro HS
  iapply (wt_Y (F := F) X Y K c 2 (by decide) (by decide) rfl) $$ HS
  iintro HS HC21
  iapply (ld_slot (F := F) c cM fullShare 2 1 _ rfl) $$ HC21
  iintro HC21
  iapply (ld_chunk (F := F) X Y c 2 1 4 (by decide) (aoff2_1 c)) $$ HA
  iintro HA
  iapply (ld_slot (F := F) c cM fullShare 2 1 _ rfl) $$ HC21
  iintro HC21
  iapply (st_sum (F := F) X Y c 2 rfl rfl) $$ HC21
  iintro HC21
  iapply (wpc_ret (F := F) c)
  iapply Hk $$ HA HS HC21

/-- Part 10 of the body. -/
theorem part_10 {Q : _ → sProp 𝕄} (i : grid0.Coords) (v2 : BitVec 32) (v8 : BitVec 32) (v12 : BitVec 32) :
    iprop(sndY X Y c 6 ∗ St X Y K c 6 3 0 0)
      ⊢ iprop((St X Y K c 7 4 0 0 -∗ rcvY X Y c 3 -∗ Q ⟨⟩)
        -∗ wpc c (k0_part10 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v8 v12) Q) := by
  rw [k0_part10_eq_skeleton]
  unfold k0_part10_skel
  simp only [Prog.lift, Prog.bind_op, Prog.bind_ret, Prog.pure_eq_ret]
  iintro ⟨HC21, HS⟩ Hk
  iapply (mv_sendY (F := F) X Y K c 6 (by decide) rfl rfl rfl rfl (Fin.ext (k0_dev11_eq c))) $$ [HS HC21]
  · isplitl [HS]; · iexact HS
    iexact HC21
  iintro HS
  iapply (wt_Y (F := F) X Y K c 3 (by decide) (by decide) rfl) $$ HS
  iintro HS HC31
  iapply (wpc_ret (F := F) c)
  iapply Hk $$ HS HC31

/-- Part 11 of the body. -/
theorem part_11 {Q : _ → sProp 𝕄} (i : grid0.Coords) (v2 : BitVec 32) (v5 : BitVec 32) (v8 : BitVec 32) (v12 : BitVec 32) (v155 : BitVec 32) :
    iprop(rcvY X Y c 3 ∗ acc X Y c 4 ∗ St X Y K c 7 4 0 0)
      ⊢ iprop((∀ (w0 : BitVec 32), acc X Y c 4 -∗ St X Y K c 8 4 0 0 -∗ Q w0)
        -∗ wpc c (k0_part11 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v12 v155) Q) := by
  rw [k0_part11_eq_skeleton]
  unfold k0_part11_skel
  simp only [Prog.lift, Prog.bind_op, Prog.bind_ret, Prog.pure_eq_ret]
  iintro ⟨HC31, HA, HS⟩ Hk
  iapply (ld_slot (F := F) c cM fullShare 3 1 _ rfl) $$ HC31
  iintro HC31
  iapply (ld_chunk (F := F) X Y c 3 1 4 (by decide) (aoff3_1 c)) $$ HA
  iintro HA
  iapply (ld_slot (F := F) c cM fullShare 3 1 _ rfl) $$ HC31
  iintro HC31
  iapply (st_sum (F := F) X Y c 3 rfl rfl) $$ HC31
  iintro HC31
  iapply (mv_sendY (F := F) X Y K c 7 (by decide) rfl rfl rfl rfl (Fin.ext (k0_dev12_eq c))) $$ [HS HC31]
  · isplitl [HS]; · iexact HS
    iexact HC31
  iintro HS
  iapply (wpc_ret (F := F) c)
  iapply Hk $$ %_ HA HS

/-- Part 12 of the body. -/
theorem part_12 {Q : _ → sProp 𝕄} (i : grid0.Coords) (v2 : BitVec 32) (v8 : BitVec 32) (v12 : BitVec 32) (v305 : BitVec 32) :
    iprop(St X Y K c 8 4 0 0 ∗ acc X Y c 4)
      ⊢ iprop((∀ (w0 : BitVec 32), acc X Y c 4 -∗ St X Y K c 8 5 0 0 -∗ sndY X Y c 8 -∗ Q w0)
        -∗ wpc c (k0_part12 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v8 v12 v305) Q) := by
  rw [k0_part12_eq_skeleton]
  unfold k0_part12_skel
  simp only [Prog.lift, Prog.bind_op, Prog.bind_ret, Prog.pure_eq_ret]
  iintro ⟨HS, HA⟩ Hk
  iapply (wt_Y (F := F) X Y K c 4 (by decide) (by decide) rfl) $$ HS
  iintro HS HC02
  iapply (ld_slot (F := F) c cM fullShare 0 2 _ rfl) $$ HC02
  iintro HC02
  iapply (ld_chunk (F := F) X Y c 4 2 4 (by decide) (aoff0_2 c)) $$ HA
  iintro HA
  iapply (ld_slot (F := F) c cM fullShare 0 2 _ rfl) $$ HC02
  iintro HC02
  iapply (st_sum (F := F) X Y c 4 rfl rfl) $$ HC02
  iintro HC02
  iapply (wpc_ret (F := F) c)
  iapply Hk $$ %_ HA HS HC02

/-- Part 13 of the body. -/
theorem part_13 {Q : _ → sProp 𝕄} (i : grid0.Coords) (v2 : BitVec 32) (v8 : BitVec 32) (v12 : BitVec 32) (v305 : BitVec 32) (v330 : BitVec 32) :
    iprop(sndY X Y c 8 ∗ St X Y K c 8 5 0 0 ∗ acc X Y c 4)
      ⊢ iprop((acc X Y c 4 -∗ St X Y K c 9 6 0 0 -∗ rcvY X Y c 5 -∗ Q ⟨(k0_pay16 (run X Y 5 1 (yL c))), (chunk X Y c 5 (jr c 2))⟩)
        -∗ wpc c (k0_part13 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v8 v12 v305 v330) Q) := by
  rw [k0_part13_eq_skeleton]
  unfold k0_part13_skel
  simp only [Prog.lift, Prog.bind_op, Prog.bind_ret, Prog.pure_eq_ret]
  iintro ⟨HC02, HS, HA⟩ Hk
  iapply (mv_sendY (F := F) X Y K c 8 (by decide) rfl rfl rfl rfl (Fin.ext (k0_dev13_eq c))) $$ [HS HC02]
  · isplitl [HS]; · iexact HS
    iexact HC02
  iintro HS
  iapply (wt_Y (F := F) X Y K c 5 (by decide) (by decide) rfl) $$ HS
  iintro HS HC12
  iapply (ld_slot (F := F) c cM fullShare 1 2 _ rfl) $$ HC12
  iintro HC12
  iapply (ld_chunk (F := F) X Y c 5 2 4 (by decide) (aoff1_2 c)) $$ HA
  iintro HA
  iapply (wpc_ret (F := F) c)
  iapply Hk $$ HA HS HC12

/-- Part 14 of the body. -/
theorem part_14 {Q : _ → sProp 𝕄} (i : grid0.Coords) (v2 : BitVec 32) (v8 : BitVec 32) (v12 : BitVec 32) :
    iprop(rcvY X Y c 5 ∗ St X Y K c 9 6 0 0)
      ⊢ iprop((St X Y K c 10 6 0 0 -∗ Q ⟨⟩)
        -∗ wpc c (k0_part14 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v8 v12 (k0_pay16 (run X Y 5 1 (yL c))) (chunk X Y c 5 (jr c 2))) Q) := by
  rw [k0_part14_eq_skeleton]
  unfold k0_part14_skel
  simp only [Prog.lift, Prog.bind_op, Prog.bind_ret, Prog.pure_eq_ret]
  iintro ⟨HC12, HS⟩ Hk
  iapply (ld_slot (F := F) c cM fullShare 1 2 _ rfl) $$ HC12
  iintro HC12
  iapply (st_sum (F := F) X Y c 5 rfl rfl) $$ HC12
  iintro HC12
  iapply (mv_sendY (F := F) X Y K c 9 (by decide) rfl rfl rfl rfl (Fin.ext (k0_dev14_eq c))) $$ [HS HC12]
  · isplitl [HS]; · iexact HS
    iexact HC12
  iintro HS
  iapply (wpc_ret (F := F) c)
  iapply Hk $$ HS

/-- Part 15 of the body. -/
theorem part_15 {Q : _ → sProp 𝕄} (i : grid0.Coords) (v2 : BitVec 32) (v8 : BitVec 32) (v12 : BitVec 32) (v305 : BitVec 32) :
    iprop(St X Y K c 10 6 0 0 ∗ acc X Y c 4)
      ⊢ iprop((acc X Y c 4 -∗ St X Y K c 10 7 0 0 -∗ sndY X Y c 10 -∗ Q ⟨⟩)
        -∗ wpc c (k0_part15 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v8 v12 v305) Q) := by
  rw [k0_part15_eq_skeleton]
  unfold k0_part15_skel
  simp only [Prog.lift, Prog.bind_op, Prog.bind_ret, Prog.pure_eq_ret]
  iintro ⟨HS, HA⟩ Hk
  iapply (wt_Y (F := F) X Y K c 6 (by decide) (by decide) rfl) $$ HS
  iintro HS HC22
  iapply (ld_slot (F := F) c cM fullShare 2 2 _ rfl) $$ HC22
  iintro HC22
  iapply (ld_chunk (F := F) X Y c 6 2 4 (by decide) (aoff2_2 c)) $$ HA
  iintro HA
  iapply (ld_slot (F := F) c cM fullShare 2 2 _ rfl) $$ HC22
  iintro HC22
  iapply (st_sum (F := F) X Y c 6 rfl rfl) $$ HC22
  iintro HC22
  iapply (wpc_ret (F := F) c)
  iapply Hk $$ HA HS HC22

/-- Part 16 of the body. -/
theorem part_16 {Q : _ → sProp 𝕄} (i : grid0.Coords) (v2 : BitVec 32) (v8 : BitVec 32) (v12 : BitVec 32) (v305 : BitVec 32) :
    iprop(sndY X Y c 10 ∗ St X Y K c 10 7 0 0 ∗ acc X Y c 4)
      ⊢ iprop((acc X Y c 4 -∗ St X Y K c 11 8 0 0 -∗ sndY X Y c 11 -∗ Q ⟨⟩)
        -∗ wpc c (k0_part16 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v8 v12 v305) Q) := by
  rw [k0_part16_eq_skeleton]
  unfold k0_part16_skel
  simp only [Prog.lift, Prog.bind_op, Prog.bind_ret, Prog.pure_eq_ret]
  iintro ⟨HC22, HS, HA⟩ Hk
  iapply (mv_sendY (F := F) X Y K c 10 (by decide) rfl rfl rfl rfl (Fin.ext (k0_dev15_eq c))) $$ [HS HC22]
  · isplitl [HS]; · iexact HS
    iexact HC22
  iintro HS
  iapply (wt_Y (F := F) X Y K c 7 (by decide) (by decide) rfl) $$ HS
  iintro HS HC32
  iapply (ld_slot (F := F) c cM fullShare 3 2 _ rfl) $$ HC32
  iintro HC32
  iapply (ld_chunk (F := F) X Y c 7 2 4 (by decide) (aoff3_2 c)) $$ HA
  iintro HA
  iapply (ld_slot (F := F) c cM fullShare 3 2 _ rfl) $$ HC32
  iintro HC32
  iapply (st_sum (F := F) X Y c 7 rfl rfl) $$ HC32
  iintro HC32
  iapply (wpc_ret (F := F) c)
  iapply Hk $$ HA HS HC32

/-- Part 17 of the body. -/
theorem part_17 {Q : _ → sProp 𝕄} (i : grid0.Coords) (v2 : BitVec 32) (v5 : BitVec 32) (v8 : BitVec 32) (v12 : BitVec 32) :
    iprop(sndY X Y c 11 ∗ St X Y K c 11 8 0 0)
      ⊢ iprop((∀ (w0 : BitVec 32), St X Y K c 12 9 0 0 -∗ rcvY X Y c 8 -∗ Q w0)
        -∗ wpc c (k0_part17 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v12) Q) := by
  rw [k0_part17_eq_skeleton]
  unfold k0_part17_skel
  simp only [Prog.lift, Prog.bind_op, Prog.bind_ret, Prog.pure_eq_ret]
  iintro ⟨HC32, HS⟩ Hk
  iapply (mv_sendY (F := F) X Y K c 11 (by decide) rfl rfl rfl rfl (Fin.ext (k0_dev16_eq c))) $$ [HS HC32]
  · isplitl [HS]; · iexact HS
    iexact HC32
  iintro HS
  iapply (wt_Y (F := F) X Y K c 8 (by decide) (by decide) rfl) $$ HS
  iintro HS HC03
  iapply (wpc_ret (F := F) c)
  iapply Hk $$ %_ HS HC03

end Cert.Ring
-- ==== Proof.PartsZ.lean ====
/-
  The parts of the body that finish the reduction and gather along z: each from what it needs to what it leaves.
-/
module

public import proofs.«01_k».proof.Proof.PartsY

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (X Y : Dev nD → Vec F S1024x1024 .bf16) (K : GSem nD τ sig → ℕ) (c : Dev nD)

/-- Part 18 of the body. -/
theorem part_18 {Q : _ → sProp 𝕄} (i : grid0.Coords) (v2 : BitVec 32) (v5 : BitVec 32) (v8 : BitVec 32) (v16 : BitVec 32) (v455 : BitVec 32) :
    iprop(rcvY X Y c 8 ∗ acc X Y c 4 ∗ emG (F := F) c 0 ∗ St X Y K c 12 9 0 0)
      ⊢ iprop((acc X Y c 4 -∗ St X Y K c 12 9 1 0 -∗ rcvY X Y c 8 -∗ Q ⟨⟩)
        -∗ wpc c (k0_part18 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v16 v455) Q) := by
  rw [k0_part18_eq_skeleton]
  unfold k0_part18_skel
  simp only [Prog.lift, Prog.bind_op, Prog.bind_ret, Prog.pure_eq_ret]
  iintro ⟨HC03, HA, HG0, HS⟩ Hk
  iapply (ld_slot (F := F) c cM fullShare 0 3 _ rfl) $$ HC03
  iintro HC03
  iapply (ld_chunk (F := F) X Y c 8 3 4 (by decide) (aoff0_3 c)) $$ HA
  iintro HA
  icases HG0 with ⟨%eG0, HG0⟩
  iapply (ld_slot (F := F) c gM fullShare 0 (zq c 0) _ (goff0 c)) $$ HG0
  iintro HG0
  iapply (st_gather (F := F) X Y c 0 (by decide) _ (k0_off5_eq c) rfl) $$ HG0
  iintro HZ0
  iapply (mv_sendZ (F := F) X Y K c 0 (by decide) (zoff0_0 c) (zoff0_0 c) rfl rfl (Fin.ext (k0_dev17_eq c))) $$ [HS HZ0]
  · isplitl [HS]; · iexact HS
    iexact HZ0
  iintro HS
  iapply (wpc_ret (F := F) c)
  iapply Hk $$ HA HS HC03

/-- Part 19 of the body. -/
theorem part_19 {Q : _ → sProp 𝕄} (i : grid0.Coords) (v2 : BitVec 32) (v5 : BitVec 32) (v8 : BitVec 32) (v12 : BitVec 32) (v455 : BitVec 32) :
    iprop(St X Y K c 12 9 1 0 ∗ acc X Y c 4 ∗ emG (F := F) c 1)
      ⊢ iprop((∀ (w0 : BitVec 32) (w1 : BitVec 32), acc X Y c 4 -∗ St X Y K c 12 10 1 0 -∗ rcvY X Y c 9 -∗ sndZ X Y c 1 -∗ Q ⟨w0, w1⟩)
        -∗ wpc c (k0_part19 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v12 v455) Q) := by
  rw [k0_part19_eq_skeleton]
  unfold k0_part19_skel
  simp only [Prog.lift, Prog.bind_op, Prog.bind_ret, Prog.pure_eq_ret]
  iintro ⟨HS, HA, HG1⟩ Hk
  iapply (wt_Y (F := F) X Y K c 9 (by decide) (by decide) rfl) $$ HS
  iintro HS HC13
  iapply (ld_slot (F := F) c cM fullShare 1 3 _ rfl) $$ HC13
  iintro HC13
  iapply (ld_chunk (F := F) X Y c 9 3 4 (by decide) (aoff1_3 c)) $$ HA
  iintro HA
  icases HG1 with ⟨%eG1, HG1⟩
  iapply (ld_slot (F := F) c gM fullShare 1 (zq c 0) _ (goff1 c)) $$ HG1
  iintro HG1
  iapply (st_gather (F := F) X Y c 1 (by decide) _ (k0_off7_eq c) rfl) $$ HG1
  iintro HZ1
  iapply (wpc_ret (F := F) c)
  iapply Hk $$ %_ %_ HA HS HC13 HZ1

/-- Part 20 of the body. -/
theorem part_20 {Q : _ → sProp 𝕄} (i : grid0.Coords) (v2 : BitVec 32) (v8 : BitVec 32) (v12 : BitVec 32) (v16 : BitVec 32) (v455 : BitVec 32) (v523 : BitVec 32) (v524 : BitVec 32) :
    iprop(sndZ X Y c 1 ∗ St X Y K c 12 10 1 0 ∗ acc X Y c 4)
      ⊢ iprop((acc X Y c 4 -∗ St X Y K c 12 11 2 0 -∗ rcvY X Y c 10 -∗ Q (k0_pay22 (run X Y 10 2 (yL c)) (chunk X Y c 10 (jr c 3))))
        -∗ wpc c (k0_part20 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v8 v12 v16 v455 v523 v524) Q) := by
  rw [k0_part20_eq_skeleton]
  unfold k0_part20_skel
  simp only [Prog.lift, Prog.bind_op, Prog.bind_ret, Prog.pure_eq_ret]
  iintro ⟨HZ1, HS, HA⟩ Hk
  iapply (mv_sendZ (F := F) X Y K c 1 (by decide) (zoff1_0 c) (zoff1_0 c) rfl rfl (Fin.ext (k0_dev18_eq c))) $$ [HS HZ1]
  · isplitl [HS]; · iexact HS
    iexact HZ1
  iintro HS
  iapply (wt_Y (F := F) X Y K c 10 (by decide) (by decide) rfl) $$ HS
  iintro HS HC23
  iapply (ld_slot (F := F) c cM fullShare 2 3 _ rfl) $$ HC23
  iintro HC23
  iapply (ld_chunk (F := F) X Y c 10 3 4 (by decide) (aoff2_3 c)) $$ HA
  iintro HA
  iapply (wpc_ret (F := F) c)
  iapply Hk $$ HA HS HC23

/-- Part 21 of the body. -/
theorem part_21 {Q : _ → sProp 𝕄} (i : grid0.Coords) (v2 : BitVec 32) (v5 : BitVec 32) (v8 : BitVec 32) (v12 : BitVec 32) (v16 : BitVec 32) :
    iprop(emG (F := F) c 2 ∗ St X Y K c 12 11 2 0)
      ⊢ iprop((St X Y K c 12 11 3 0 -∗ Q ⟨⟩)
        -∗ wpc c (k0_part21 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v12 v16 (k0_pay22 (run X Y 10 2 (yL c)) (chunk X Y c 10 (jr c 3)))) Q) := by
  rw [k0_part21_eq_skeleton]
  unfold k0_part21_skel
  simp only [Prog.lift, Prog.bind_op, Prog.bind_ret, Prog.pure_eq_ret]
  iintro ⟨HG2, HS⟩ Hk
  icases HG2 with ⟨%eG2, HG2⟩
  iapply (ld_slot (F := F) c gM fullShare 2 (zq c 0) _ (goff2 c)) $$ HG2
  iintro HG2
  iapply (st_gather (F := F) X Y c 2 (by decide) _ (k0_off9_eq c) rfl) $$ HG2
  iintro HZ2
  iapply (mv_sendZ (F := F) X Y K c 2 (by decide) (zoff2_0 c) (zoff2_0 c) rfl rfl (Fin.ext (k0_dev19_eq c))) $$ [HS HZ2]
  · isplitl [HS]; · iexact HS
    iexact HZ2
  iintro HS
  iapply (wpc_ret (F := F) c)
  iapply Hk $$ HS

/-- Part 22 of the body. -/
theorem part_22 {Q : _ → sProp 𝕄} (i : grid0.Coords) (v2 : BitVec 32) (v5 : BitVec 32) (v8 : BitVec 32) (v16 : BitVec 32) (v455 : BitVec 32) :
    iprop(St X Y K c 12 11 3 0 ∗ acc X Y c 4 ∗ emG (F := F) c 3)
      ⊢ iprop((acc X Y c 4 -∗ St X Y K c 12 12 3 0 -∗ rcvY X Y c 11 -∗ sndZ X Y c 3 -∗ Q ⟨⟩)
        -∗ wpc c (k0_part22 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v16 v455) Q) := by
  rw [k0_part22_eq_skeleton]
  unfold k0_part22_skel
  simp only [Prog.lift, Prog.bind_op, Prog.bind_ret, Prog.pure_eq_ret]
  iintro ⟨HS, HA, HG3⟩ Hk
  iapply (wt_Y (F := F) X Y K c 11 (by decide) (by decide) rfl) $$ HS
  iintro HS HC33
  iapply (ld_slot (F := F) c cM fullShare 3 3 _ rfl) $$ HC33
  iintro HC33
  iapply (ld_chunk (F := F) X Y c 11 3 4 (by decide) (aoff3_3 c)) $$ HA
  iintro HA
  icases HG3 with ⟨%eG3, HG3⟩
  iapply (ld_slot (F := F) c gM fullShare 3 (zq c 0) _ (goff3 c)) $$ HG3
  iintro HG3
  iapply (st_gather (F := F) X Y c 3 (by decide) _ (k0_off11_eq c) rfl) $$ HG3
  iintro HZ3
  iapply (wpc_ret (F := F) c)
  iapply Hk $$ HA HS HC33 HZ3

/-- Part 23 of the body. -/
theorem part_23 {Q : _ → sProp 𝕄} (i : grid0.Coords) (v2 : BitVec 32) (v5 : BitVec 32) (v8 : BitVec 32) (v16 : BitVec 32) :
    iprop(sndZ X Y c 3 ∗ St X Y K c 12 12 3 0)
      ⊢ iprop((St X Y K c 12 12 4 1 -∗ sndZ X Y c 4 -∗ Q ⟨⟩)
        -∗ wpc c (k0_part23 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v16) Q) := by
  rw [k0_part23_eq_skeleton]
  unfold k0_part23_skel
  simp only [Prog.lift, Prog.bind_op, Prog.bind_ret, Prog.pure_eq_ret]
  iintro ⟨HZ3, HS⟩ Hk
  iapply (mv_sendZ (F := F) X Y K c 3 (by decide) (zoff3_0 c) (zoff3_0 c) rfl rfl (Fin.ext (k0_dev20_eq c))) $$ [HS HZ3]
  · isplitl [HS]; · iexact HS
    iexact HZ3
  iintro HS
  iapply (wt_Z (F := F) X Y K c 0 (by decide) (by decide) rfl) $$ HS
  iintro HS HZ4
  ihave HZ4 := (rcvZ_next (F := F) X Y c 0) $$ HZ4
  iapply (wpc_ret (F := F) c)
  iapply Hk $$ HS HZ4

/-- Part 24 of the body. -/
theorem part_24 {Q : _ → sProp 𝕄} (i : grid0.Coords) (v2 : BitVec 32) (v5 : BitVec 32) (v8 : BitVec 32) (v16 : BitVec 32) :
    iprop(sndZ X Y c 4 ∗ St X Y K c 12 12 4 1)
      ⊢ iprop((St X Y K c 12 12 5 2 -∗ sndZ X Y c 5 -∗ Q ⟨⟩)
        -∗ wpc c (k0_part24 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v16) Q) := by
  rw [k0_part24_eq_skeleton]
  unfold k0_part24_skel
  simp only [Prog.lift, Prog.bind_op, Prog.bind_ret, Prog.pure_eq_ret]
  iintro ⟨HZ4, HS⟩ Hk
  iapply (mv_sendZ (F := F) X Y K c 4 (by decide) (zoff0_1 c) (zoff0_1 c) rfl rfl (Fin.ext (k0_dev21_eq c))) $$ [HS HZ4]
  · isplitl [HS]; · iexact HS
    iexact HZ4
  iintro HS
  iapply (wt_Z (F := F) X Y K c 1 (by decide) (by decide) rfl) $$ HS
  iintro HS HZ5
  ihave HZ5 := (rcvZ_next (F := F) X Y c 1) $$ HZ5
  iapply (wpc_ret (F := F) c)
  iapply Hk $$ HS HZ5

/-- Part 25 of the body. -/
theorem part_25 {Q : _ → sProp 𝕄} (i : grid0.Coords) (v2 : BitVec 32) (v5 : BitVec 32) (v8 : BitVec 32) (v16 : BitVec 32) :
    iprop(sndZ X Y c 5 ∗ St X Y K c 12 12 5 2)
      ⊢ iprop((St X Y K c 12 12 6 3 -∗ sndZ X Y c 6 -∗ Q ⟨⟩)
        -∗ wpc c (k0_part25 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v16) Q) := by
  rw [k0_part25_eq_skeleton]
  unfold k0_part25_skel
  simp only [Prog.lift, Prog.bind_op, Prog.bind_ret, Prog.pure_eq_ret]
  iintro ⟨HZ5, HS⟩ Hk
  iapply (mv_sendZ (F := F) X Y K c 5 (by decide) (zoff1_1 c) (zoff1_1 c) rfl rfl (Fin.ext (k0_dev22_eq c))) $$ [HS HZ5]
  · isplitl [HS]; · iexact HS
    iexact HZ5
  iintro HS
  iapply (wt_Z (F := F) X Y K c 2 (by decide) (by decide) rfl) $$ HS
  iintro HS HZ6
  ihave HZ6 := (rcvZ_next (F := F) X Y c 2) $$ HZ6
  iapply (wpc_ret (F := F) c)
  iapply Hk $$ HS HZ6

/-- Part 26 of the body. -/
theorem part_26 {Q : _ → sProp 𝕄} (i : grid0.Coords) (v2 : BitVec 32) (v5 : BitVec 32) (v8 : BitVec 32) (v16 : BitVec 32) :
    iprop(sndZ X Y c 6 ∗ St X Y K c 12 12 6 3)
      ⊢ iprop((St X Y K c 12 12 7 4 -∗ sndZ X Y c 7 -∗ Q ⟨⟩)
        -∗ wpc c (k0_part26 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v16) Q) := by
  rw [k0_part26_eq_skeleton]
  unfold k0_part26_skel
  simp only [Prog.lift, Prog.bind_op, Prog.bind_ret, Prog.pure_eq_ret]
  iintro ⟨HZ6, HS⟩ Hk
  iapply (mv_sendZ (F := F) X Y K c 6 (by decide) (zoff2_1 c) (zoff2_1 c) rfl rfl (Fin.ext (k0_dev23_eq c))) $$ [HS HZ6]
  · isplitl [HS]; · iexact HS
    iexact HZ6
  iintro HS
  iapply (wt_Z (F := F) X Y K c 3 (by decide) (by decide) rfl) $$ HS
  iintro HS HZ7
  ihave HZ7 := (rcvZ_next (F := F) X Y c 3) $$ HZ7
  iapply (wpc_ret (F := F) c)
  iapply Hk $$ HS HZ7

/-- Part 27 of the body. -/
theorem part_27 {Q : _ → sProp 𝕄} (i : grid0.Coords) (v2 : BitVec 32) (v5 : BitVec 32) (v8 : BitVec 32) (v16 : BitVec 32) :
    iprop(sndZ X Y c 7 ∗ St X Y K c 12 12 7 4)
      ⊢ iprop((St X Y K c 12 12 8 5 -∗ sndZ X Y c 8 -∗ Q ⟨⟩)
        -∗ wpc c (k0_part27 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v16) Q) := by
  rw [k0_part27_eq_skeleton]
  unfold k0_part27_skel
  simp only [Prog.lift, Prog.bind_op, Prog.bind_ret, Prog.pure_eq_ret]
  iintro ⟨HZ7, HS⟩ Hk
  iapply (mv_sendZ (F := F) X Y K c 7 (by decide) (zoff3_1 c) (zoff3_1 c) rfl rfl (Fin.ext (k0_dev24_eq c))) $$ [HS HZ7]
  · isplitl [HS]; · iexact HS
    iexact HZ7
  iintro HS
  iapply (wt_Z (F := F) X Y K c 4 (by decide) (by decide) rfl) $$ HS
  iintro HS HZ8
  ihave HZ8 := (rcvZ_next (F := F) X Y c 4) $$ HZ8
  iapply (wpc_ret (F := F) c)
  iapply Hk $$ HS HZ8

/-- Part 28 of the body. -/
theorem part_28 {Q : _ → sProp 𝕄} (i : grid0.Coords) (v2 : BitVec 32) (v5 : BitVec 32) (v8 : BitVec 32) (v16 : BitVec 32) :
    iprop(sndZ X Y c 8 ∗ St X Y K c 12 12 8 5)
      ⊢ iprop((St X Y K c 12 12 9 6 -∗ sndZ X Y c 9 -∗ Q ⟨⟩)
        -∗ wpc c (k0_part28 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v16) Q) := by
  rw [k0_part28_eq_skeleton]
  unfold k0_part28_skel
  simp only [Prog.lift, Prog.bind_op, Prog.bind_ret, Prog.pure_eq_ret]
  iintro ⟨HZ8, HS⟩ Hk
  iapply (mv_sendZ (F := F) X Y K c 8 (by decide) (zoff0_2 c) (zoff0_2 c) rfl rfl (Fin.ext (k0_dev25_eq c))) $$ [HS HZ8]
  · isplitl [HS]; · iexact HS
    iexact HZ8
  iintro HS
  iapply (wt_Z (F := F) X Y K c 5 (by decide) (by decide) rfl) $$ HS
  iintro HS HZ9
  ihave HZ9 := (rcvZ_next (F := F) X Y c 5) $$ HZ9
  iapply (wpc_ret (F := F) c)
  iapply Hk $$ HS HZ9

/-- Part 29 of the body. -/
theorem part_29 {Q : _ → sProp 𝕄} (i : grid0.Coords) (v2 : BitVec 32) (v5 : BitVec 32) (v8 : BitVec 32) (v16 : BitVec 32) :
    iprop(sndZ X Y c 9 ∗ St X Y K c 12 12 9 6)
      ⊢ iprop((St X Y K c 12 12 10 7 -∗ sndZ X Y c 10 -∗ Q ⟨⟩)
        -∗ wpc c (k0_part29 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v16) Q) := by
  rw [k0_part29_eq_skeleton]
  unfold k0_part29_skel
  simp only [Prog.lift, Prog.bind_op, Prog.bind_ret, Prog.pure_eq_ret]
  iintro ⟨HZ9, HS⟩ Hk
  iapply (mv_sendZ (F := F) X Y K c 9 (by decide) (zoff1_2 c) (zoff1_2 c) rfl rfl (Fin.ext (k0_dev26_eq c))) $$ [HS HZ9]
  · isplitl [HS]; · iexact HS
    iexact HZ9
  iintro HS
  iapply (wt_Z (F := F) X Y K c 6 (by decide) (by decide) rfl) $$ HS
  iintro HS HZ10
  ihave HZ10 := (rcvZ_next (F := F) X Y c 6) $$ HZ10
  iapply (wpc_ret (F := F) c)
  iapply Hk $$ HS HZ10

/-- Part 30 of the body. -/
theorem part_30 {Q : _ → sProp 𝕄} (i : grid0.Coords) (v2 : BitVec 32) (v5 : BitVec 32) (v8 : BitVec 32) (v16 : BitVec 32) :
    iprop(sndZ X Y c 10 ∗ St X Y K c 12 12 10 7)
      ⊢ iprop((St X Y K c 12 12 11 8 -∗ sndZ X Y c 11 -∗ Q ⟨⟩)
        -∗ wpc c (k0_part30 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v8 v16) Q) := by
  rw [k0_part30_eq_skeleton]
  unfold k0_part30_skel
  simp only [Prog.lift, Prog.bind_op, Prog.bind_ret, Prog.pure_eq_ret]
  iintro ⟨HZ10, HS⟩ Hk
  iapply (mv_sendZ (F := F) X Y K c 10 (by decide) (zoff2_2 c) (zoff2_2 c) rfl rfl (Fin.ext (k0_dev27_eq c))) $$ [HS HZ10]
  · isplitl [HS]; · iexact HS
    iexact HZ10
  iintro HS
  iapply (wt_Z (F := F) X Y K c 7 (by decide) (by decide) rfl) $$ HS
  iintro HS HZ11
  ihave HZ11 := (rcvZ_next (F := F) X Y c 7) $$ HZ11
  iapply (wpc_ret (F := F) c)
  iapply Hk $$ HS HZ11

/-- Part 31 of the body. -/
theorem part_31 {Q : _ → sProp 𝕄} (i : grid0.Coords) (v2 : BitVec 32) (v5 : BitVec 32) (v16 : BitVec 32) :
    iprop(sndZ X Y c 11 ∗ St X Y K c 12 12 11 8)
      ⊢ iprop((St X Y K c 12 12 12 10 -∗ rcvZ X Y c 8 -∗ rcvZ X Y c 9 -∗ Q ⟨⟩)
        -∗ wpc c (k0_part31 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v16) Q) := by
  rw [k0_part31_eq_skeleton]
  unfold k0_part31_skel
  simp only [Prog.lift, Prog.bind_op, Prog.bind_ret, Prog.pure_eq_ret]
  iintro ⟨HZ11, HS⟩ Hk
  iapply (mv_sendZ (F := F) X Y K c 11 (by decide) (zoff3_2 c) (zoff3_2 c) rfl rfl (Fin.ext (k0_dev28_eq c))) $$ [HS HZ11]
  · isplitl [HS]; · iexact HS
    iexact HZ11
  iintro HS
  iapply (wt_Z (F := F) X Y K c 8 (by decide) (by decide) rfl) $$ HS
  iintro HS HZ12
  iapply (wt_Z (F := F) X Y K c 9 (by decide) (by decide) rfl) $$ HS
  iintro HS HZ13
  iapply (wpc_ret (F := F) c)
  iapply Hk $$ HS HZ12 HZ13

/-- Part 32 of the body. -/
theorem part_32 {Q : _ → sProp 𝕄} (i : grid0.Coords) (v2 : BitVec 32) (v5 : BitVec 32) (v16 : BitVec 32) :
    iprop(St X Y K c 12 12 12 10 ∗ rcvZ X Y c 8 ∗ rcvZ X Y c 9)
      ⊢ iprop((Fn X Y K c 0 0 -∗ lastZ X Y c 4 -∗ Q (k0_pay25 (run X Y 0 3 (atZ c 0))))
        -∗ wpc c (k0_part32 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v16) Q) := by
  rw [k0_part32_eq_skeleton]
  unfold k0_part32_skel
  simp only [Prog.lift, Prog.bind_op, Prog.bind_ret, Prog.pure_eq_ret]
  iintro ⟨HS, HZ12, HZ13⟩ Hk
  iapply (wt_Z (F := F) X Y K c 10 (by decide) (by decide) rfl) $$ HS
  iintro HS HZ14
  iapply (wt_Z (F := F) X Y K c 11 (by decide) (by decide) rfl) $$ HS
  iintro HS HZ15
  ihave HF := (St_end (F := F) X Y K c) $$ HS
  ihave HL := (lastZ_four (F := F) X Y c) $$ [HZ12 HZ13 HZ14 HZ15]
  · isplitl [HZ12]; · iexact HZ12
    isplitl [HZ13]; · iexact HZ13
    isplitl [HZ14]; · iexact HZ14
    iexact HZ15
  iapply (ld_gathered (F := F) X Y K c 0 (by decide) rfl) $$ [HF HL]
  · isplitl [HF]; · iexact HF
    iexact HL
  iintro HF HL
  iapply (wpc_ret (F := F) c)
  iapply Hk $$ HF HL

end Cert.Ring
-- ==== Proof.PartsE.lean ====
/-
  The parts of the body that write the result and wait for the transfers sent: each from what it needs to what it leaves.
-/
module

public import proofs.«01_k».proof.Proof.PartsZ

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (X Y : Dev nD → Vec F S1024x1024 .bf16) (K : GSem nD τ sig → ℕ) (c : Dev nD)

/-- Part 33 of the body. -/
theorem part_33 {Q : _ → sProp 𝕄} (i : grid0.Coords) :
    iprop(out X Y c 0 ∗ Fn X Y K c 0 0 ∗ lastZ X Y c 4)
      ⊢ iprop((out X Y c 6 -∗ Fn X Y K c 0 0 -∗ lastZ X Y c 4 -∗ Q ⟨⟩)
        -∗ wpc c (k0_part33 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 (k0_pay25 (run X Y 0 3 (atZ c 0)))) Q) := by
  rw [k0_part33_eq_skeleton]
  unfold k0_part33_skel
  simp only [Prog.lift, Prog.bind_op, Prog.bind_ret, Prog.pure_eq_ret]
  iintro ⟨HO, HF, HL⟩ Hk
  iapply (wp_ld_dead (F := F) c oM) $$ HO
  iintro HO
  iapply (st_out (F := F) X Y c 0 (by decide) rfl rfl) $$ HO
  iintro HO
  iapply (ld_gathered (F := F) X Y K c 1 (by decide) rfl) $$ [HF HL]
  · isplitl [HF]; · iexact HF
    iexact HL
  iintro HF HL
  iapply (wp_ld_dead (F := F) c oM) $$ HO
  iintro HO
  iapply (st_out (F := F) X Y c 1 (by decide) rfl rfl) $$ HO
  iintro HO
  iapply (ld_gathered (F := F) X Y K c 2 (by decide) rfl) $$ [HF HL]
  · isplitl [HF]; · iexact HF
    iexact HL
  iintro HF HL
  iapply (wp_ld_dead (F := F) c oM) $$ HO
  iintro HO
  iapply (st_out (F := F) X Y c 2 (by decide) rfl rfl) $$ HO
  iintro HO
  iapply (ld_gathered (F := F) X Y K c 3 (by decide) rfl) $$ [HF HL]
  · isplitl [HF]; · iexact HF
    iexact HL
  iintro HF HL
  iapply (wp_ld_dead (F := F) c oM) $$ HO
  iintro HO
  iapply (st_out (F := F) X Y c 3 (by decide) rfl rfl) $$ HO
  iintro HO
  iapply (ld_gathered (F := F) X Y K c 4 (by decide) rfl) $$ [HF HL]
  · isplitl [HF]; · iexact HF
    iexact HL
  iintro HF HL
  iapply (wp_ld_dead (F := F) c oM) $$ HO
  iintro HO
  iapply (st_out (F := F) X Y c 4 (by decide) rfl rfl) $$ HO
  iintro HO
  iapply (ld_gathered (F := F) X Y K c 5 (by decide) rfl) $$ [HF HL]
  · isplitl [HF]; · iexact HF
    iexact HL
  iintro HF HL
  iapply (wp_ld_dead (F := F) c oM) $$ HO
  iintro HO
  iapply (st_out (F := F) X Y c 5 (by decide) rfl rfl) $$ HO
  iintro HO
  iapply (wpc_ret (F := F) c)
  iapply Hk $$ HO HF HL

/-- Part 34 of the body. -/
theorem part_34 {Q : _ → sProp 𝕄} (i : grid0.Coords) :
    iprop(Fn X Y K c 0 0 ∗ lastZ X Y c 4 ∗ out X Y c 6)
      ⊢ iprop((out X Y c 11 -∗ Fn X Y K c 0 0 -∗ lastZ X Y c 4 -∗ Q (k0_pay36 (run X Y 3 3 (atZ c 2))))
        -∗ wpc c (k0_part34 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6) Q) := by
  rw [k0_part34_eq_skeleton]
  unfold k0_part34_skel
  simp only [Prog.lift, Prog.bind_op, Prog.bind_ret, Prog.pure_eq_ret]
  iintro ⟨HF, HL, HO⟩ Hk
  iapply (ld_gathered (F := F) X Y K c 6 (by decide) rfl) $$ [HF HL]
  · isplitl [HF]; · iexact HF
    iexact HL
  iintro HF HL
  iapply (wp_ld_dead (F := F) c oM) $$ HO
  iintro HO
  iapply (st_out (F := F) X Y c 6 (by decide) rfl rfl) $$ HO
  iintro HO
  iapply (ld_gathered (F := F) X Y K c 7 (by decide) rfl) $$ [HF HL]
  · isplitl [HF]; · iexact HF
    iexact HL
  iintro HF HL
  iapply (wp_ld_dead (F := F) c oM) $$ HO
  iintro HO
  iapply (st_out (F := F) X Y c 7 (by decide) rfl rfl) $$ HO
  iintro HO
  iapply (ld_gathered (F := F) X Y K c 8 (by decide) rfl) $$ [HF HL]
  · isplitl [HF]; · iexact HF
    iexact HL
  iintro HF HL
  iapply (wp_ld_dead (F := F) c oM) $$ HO
  iintro HO
  iapply (st_out (F := F) X Y c 8 (by decide) rfl rfl) $$ HO
  iintro HO
  iapply (ld_gathered (F := F) X Y K c 9 (by decide) rfl) $$ [HF HL]
  · isplitl [HF]; · iexact HF
    iexact HL
  iintro HF HL
  iapply (wp_ld_dead (F := F) c oM) $$ HO
  iintro HO
  iapply (st_out (F := F) X Y c 9 (by decide) rfl rfl) $$ HO
  iintro HO
  iapply (ld_gathered (F := F) X Y K c 10 (by decide) rfl) $$ [HF HL]
  · isplitl [HF]; · iexact HF
    iexact HL
  iintro HF HL
  iapply (wp_ld_dead (F := F) c oM) $$ HO
  iintro HO
  iapply (st_out (F := F) X Y c 10 (by decide) rfl rfl) $$ HO
  iintro HO
  iapply (ld_gathered (F := F) X Y K c 11 (by decide) rfl) $$ [HF HL]
  · isplitl [HF]; · iexact HF
    iexact HL
  iintro HF HL
  iapply (wpc_ret (F := F) c)
  iapply Hk $$ HO HF HL

/-- Part 35 of the body. -/
theorem part_35 {Q : _ → sProp 𝕄} (i : grid0.Coords) :
    iprop(out X Y c 11 ∗ Fn X Y K c 0 0 ∗ lastZ X Y c 4)
      ⊢ iprop((out X Y c 16 -∗ Fn X Y K c 0 0 -∗ lastZ X Y c 4 -∗ Q ⟨⟩)
        -∗ wpc c (k0_part35 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 (k0_pay36 (run X Y 3 3 (atZ c 2)))) Q) := by
  rw [k0_part35_eq_skeleton]
  unfold k0_part35_skel
  simp only [Prog.lift, Prog.bind_op, Prog.bind_ret, Prog.pure_eq_ret]
  iintro ⟨HO, HF, HL⟩ Hk
  iapply (wp_ld_dead (F := F) c oM) $$ HO
  iintro HO
  iapply (st_out (F := F) X Y c 11 (by decide) rfl rfl) $$ HO
  iintro HO
  iapply (ld_gathered (F := F) X Y K c 12 (by decide) rfl) $$ [HF HL]
  · isplitl [HF]; · iexact HF
    iexact HL
  iintro HF HL
  iapply (wp_ld_dead (F := F) c oM) $$ HO
  iintro HO
  iapply (st_out (F := F) X Y c 12 (by decide) rfl rfl) $$ HO
  iintro HO
  iapply (ld_gathered (F := F) X Y K c 13 (by decide) rfl) $$ [HF HL]
  · isplitl [HF]; · iexact HF
    iexact HL
  iintro HF HL
  iapply (wp_ld_dead (F := F) c oM) $$ HO
  iintro HO
  iapply (st_out (F := F) X Y c 13 (by decide) rfl rfl) $$ HO
  iintro HO
  iapply (ld_gathered (F := F) X Y K c 14 (by decide) rfl) $$ [HF HL]
  · isplitl [HF]; · iexact HF
    iexact HL
  iintro HF HL
  iapply (wp_ld_dead (F := F) c oM) $$ HO
  iintro HO
  iapply (st_out (F := F) X Y c 14 (by decide) rfl rfl) $$ HO
  iintro HO
  iapply (ld_gathered (F := F) X Y K c 15 (by decide) rfl) $$ [HF HL]
  · isplitl [HF]; · iexact HF
    iexact HL
  iintro HF HL
  iapply (wp_ld_dead (F := F) c oM) $$ HO
  iintro HO
  iapply (st_out (F := F) X Y c 15 (by decide) rfl rfl) $$ HO
  iintro HO
  iapply (wpc_ret (F := F) c)
  iapply Hk $$ HO HF HL

/-- Part 36 of the body. -/
theorem part_36 {Q : _ → sProp 𝕄} (i : grid0.Coords) :
    Fn X Y K c 0 0
      ⊢ iprop((Fn X Y K c 3 0 -∗ Q ⟨⟩)
        -∗ wpc c (k0_part36 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6) Q) := by
  rw [k0_part36_eq_skeleton]
  unfold k0_part36_skel
  simp only [Prog.lift, Prog.bind_op, Prog.bind_ret, Prog.pure_eq_ret]
  iintro HF Hk
  iapply (bk_Y (F := F) X Y K c 0 (by decide) rfl) $$ HF
  iintro HF
  iapply (bk_Y (F := F) X Y K c 1 (by decide) rfl) $$ HF
  iintro HF
  iapply (bk_Y (F := F) X Y K c 2 (by decide) rfl) $$ HF
  iintro HF
  iapply (wpc_ret (F := F) c)
  iapply Hk $$ HF

/-- Part 37 of the body. -/
theorem part_37 {Q : _ → sProp 𝕄} (i : grid0.Coords) :
    Fn X Y K c 3 0
      ⊢ iprop((Fn X Y K c 6 0 -∗ Q ⟨⟩)
        -∗ wpc c (k0_part37 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6) Q) := by
  rw [k0_part37_eq_skeleton]
  unfold k0_part37_skel
  simp only [Prog.lift, Prog.bind_op, Prog.bind_ret, Prog.pure_eq_ret]
  iintro HF Hk
  iapply (bk_Y (F := F) X Y K c 3 (by decide) rfl) $$ HF
  iintro HF
  iapply (bk_Y (F := F) X Y K c 4 (by decide) rfl) $$ HF
  iintro HF
  iapply (bk_Y (F := F) X Y K c 5 (by decide) rfl) $$ HF
  iintro HF
  iapply (wpc_ret (F := F) c)
  iapply Hk $$ HF

/-- Part 38 of the body. -/
theorem part_38 {Q : _ → sProp 𝕄} (i : grid0.Coords) :
    Fn X Y K c 6 0
      ⊢ iprop((Fn X Y K c 9 0 -∗ Q ⟨⟩)
        -∗ wpc c (k0_part38 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6) Q) := by
  rw [k0_part38_eq_skeleton]
  unfold k0_part38_skel
  simp only [Prog.lift, Prog.bind_op, Prog.bind_ret, Prog.pure_eq_ret]
  iintro HF Hk
  iapply (bk_Y (F := F) X Y K c 6 (by decide) rfl) $$ HF
  iintro HF
  iapply (bk_Y (F := F) X Y K c 7 (by decide) rfl) $$ HF
  iintro HF
  iapply (bk_Y (F := F) X Y K c 8 (by decide) rfl) $$ HF
  iintro HF
  iapply (wpc_ret (F := F) c)
  iapply Hk $$ HF

/-- Part 39 of the body. -/
theorem part_39 {Q : _ → sProp 𝕄} (i : grid0.Coords) :
    Fn X Y K c 9 0
      ⊢ iprop((Fn X Y K c 12 0 -∗ Q ⟨⟩)
        -∗ wpc c (k0_part39 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6) Q) := by
  rw [k0_part39_eq_skeleton]
  unfold k0_part39_skel
  simp only [Prog.lift, Prog.bind_op, Prog.bind_ret, Prog.pure_eq_ret]
  iintro HF Hk
  iapply (bk_Y (F := F) X Y K c 9 (by decide) rfl) $$ HF
  iintro HF
  iapply (bk_Y (F := F) X Y K c 10 (by decide) rfl) $$ HF
  iintro HF
  iapply (bk_Y (F := F) X Y K c 11 (by decide) rfl) $$ HF
  iintro HF
  iapply (wpc_ret (F := F) c)
  iapply Hk $$ HF

/-- Part 40 of the body. -/
theorem part_40 {Q : _ → sProp 𝕄} (i : grid0.Coords) :
    Fn X Y K c 12 0
      ⊢ iprop((Fn X Y K c 12 3 -∗ Q ⟨⟩)
        -∗ wpc c (k0_part40 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c) Q) := by
  rw [k0_part40_eq_skeleton]
  unfold k0_part40_skel
  simp only [Prog.lift, Prog.bind_op, Prog.bind_ret, Prog.pure_eq_ret]
  iintro HF Hk
  iapply (bk_Z (F := F) X Y K c 0 (by decide) rfl) $$ HF
  iintro HF
  iapply (bk_Z (F := F) X Y K c 1 (by decide) rfl) $$ HF
  iintro HF
  iapply (bk_Z (F := F) X Y K c 2 (by decide) rfl) $$ HF
  iintro HF
  iapply (wpc_ret (F := F) c)
  iapply Hk $$ HF

/-- Part 41 of the body. -/
theorem part_41 {Q : _ → sProp 𝕄} (i : grid0.Coords) :
    Fn X Y K c 12 3
      ⊢ iprop((Fn X Y K c 12 7 -∗ Q ⟨⟩)
        -∗ wpc c (k0_part41 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c) Q) := by
  rw [k0_part41_eq_skeleton]
  unfold k0_part41_skel
  simp only [Prog.lift, Prog.bind_op, Prog.bind_ret, Prog.pure_eq_ret]
  iintro HF Hk
  iapply (bk_Z (F := F) X Y K c 3 (by decide) rfl) $$ HF
  iintro HF
  iapply (bk_Z (F := F) X Y K c 4 (by decide) rfl) $$ HF
  iintro HF
  iapply (bk_Z (F := F) X Y K c 5 (by decide) rfl) $$ HF
  iintro HF
  iapply (bk_Z (F := F) X Y K c 6 (by decide) rfl) $$ HF
  iintro HF
  iapply (wpc_ret (F := F) c)
  iapply Hk $$ HF

/-- Part 42 of the body. -/
theorem part_42 {Q : _ → sProp 𝕄} (i : grid0.Coords) :
    Fn X Y K c 12 7
      ⊢ iprop((Fn X Y K c 12 10 -∗ Q ⟨⟩)
        -∗ wpc c (k0_part42 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c) Q) := by
  rw [k0_part42_eq_skeleton]
  unfold k0_part42_skel
  simp only [Prog.lift, Prog.bind_op, Prog.bind_ret, Prog.pure_eq_ret]
  iintro HF Hk
  iapply (bk_Z (F := F) X Y K c 7 (by decide) rfl) $$ HF
  iintro HF
  iapply (bk_Z (F := F) X Y K c 8 (by decide) rfl) $$ HF
  iintro HF
  iapply (bk_Z (F := F) X Y K c 9 (by decide) rfl) $$ HF
  iintro HF
  iapply (wpc_ret (F := F) c)
  iapply Hk $$ HF

end Cert.Ring
-- ==== Proof.Hand.lean ====
/-
  The opening handshake of the body: a signal to each of the four neighbours, which hands the left ones the slots
  they may send into, and the wait for the four neighbours' signals; then the first product.
-/
module

public import proofs.«01_k».proof.Proof.PartsE

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (X Y : Dev nD → Vec F S1024x1024 .bf16) (K : GSem nD τ sig → ℕ) (c : Dev nD)

/-- A signal to device `d`'s barrier cell pays one of its duties. -/
theorem sig_step {α : Type} {Q : α → sProp 𝕄} (d : Dev nD) (u : Fin 4) (O : CellTallies nD τ sig Unit) {W : Waits sig Unit} {d' : Dev nD} (en : d' = d)
    {p : PUnit → Prog (TpuEff nD τ sig (Elt F) Λ₀ .tc) α} :
    iprop(invs X Y K ∗ dutyTok ER (barCell d) 0 u ∗ reached ER (barCell d) 0 ∗ barPay (F := F) d u ∗ owes (c : Thread nD τ) (O + tallyAt (barCell d) () 1) W)
      ⊢ iprop((owes (c : Thread nD τ) O W -∗ wpc c (p ⟨⟩) Q) -∗ wpc c (.op (.semSignal (d' : Thread nD τ) barS 1) p) Q) := by
  subst en
  iintro ⟨#Hi, Ht, #Hr, Hp, HO⟩ Hk
  iapply (Rounds.wp_signal 𝒱₀ ER (sched X Y) (c : Thread nD τ) none (dst := (d' : Thread nD τ)) (sem := barS) (r := 0) (d := u) (κ := K (barCell d'))
      (by rw [duties_bar]; exact Finset.mem_univ _) (amount_bar X Y d' 0 u) () O rfl) $$ [HO Ht Hp]
  · isplitr; · iapply (inv_bar X Y K d'); iexact Hi
    isplitl [HO]; · iexact HO
    isplitl [Ht]; · iexact Ht
    isplitl [Hp]; · iapply (Entails.of_eq (payload_bar X Y d' 0 u).symm); iexact Hp
    iexact Hr
  iintro HO
  iapply Hk
  iexact HO

/-- The signal to the left neighbour along `y` hands over `c`'s landing slots along `y`. -/
theorem barPay_0 : barPay (F := F) (yL c) 0 = bigSep (Finset.range 12) (landY (F := F) c) := by
  unfold barPay; rw [if_pos rfl, yR_yL]
/-- The signal to a right neighbour along `y` hands over nothing. -/
theorem barPay_1 (d : Dev nD) : barPay (F := F) d 1 = iprop(emp) := by
  unfold barPay; rw [if_neg (by decide), if_neg (by decide)]
/-- The signal to the left neighbour along `z` hands over `c`'s landing slots along `z`. -/
theorem barPay_2 : barPay (F := F) (zL c) 2 = bigSep (Finset.range 12) (landZ (F := F) c) := by
  unfold barPay; rw [if_neg (by decide), if_pos rfl, zR_zL]
/-- The signal to a right neighbour along `z` hands over nothing. -/
theorem barPay_3 (d : Dev nD) : barPay (F := F) d 3 = iprop(emp) := by
  unfold barPay; rw [if_neg (by decide), if_neg (by decide)]

/-- The wait for the four signals: the neighbours' slots come, and the barrier cell is closed. -/
theorem bar_wait {α : Type} {Q : α → sProp 𝕄} {W : Waits sig Unit} {p : PUnit → Prog (TpuEff nD τ sig (Elt F) Λ₀ .tc) α} :
    iprop(invs X Y K ∗ levAts L lv ∗ atPos ER (barCell c) 0 ∅ 0 ∗ cred (tallyAt (barCell c) () 4) ∗ owes (c : Thread nD τ) (due c 0 0) W)
      ⊢ iprop(((∃ W', owes (c : Thread nD τ) (due c 0 0) W') -∗ semVal (barCell c) 0
          -∗ bigSep (Finset.range 12) (landY (F := F) (yR c)) -∗ bigSep (Finset.range 12) (landZ (F := F) (zR c)) -∗ wpc c (p ⟨⟩) Q)
        -∗ wpc c (.op (.semWait barS 4) p) Q) := by
  iintro ⟨#Hi, #Hl, Hat, Hc, HO⟩ Hk
  iapply (Rounds.wp_wait_rest_token 𝒱₀ ER (sched X Y) (c : Thread nD τ) none (κ := K (barCell c)) (k' := 4)
      (wpE_semWait_eq 𝒱₀ (c : Thread nD τ) none Set.univ) (Set.mem_univ _) () (O := due c 0 0) (W := W) (R := 0) (m := 0) (T := ∅)
      ((Nat.zero_add _).trans (expect_bar X Y c).symm)) $$ [Hc HO Hat]
  · isplitr; · iapply (inv_bar X Y K c); iexact Hi
    isplitl [Hc]; · iexact Hc
    isplitl [HO]; · iexact HO
    isplitr
    · iapply (mayWait c (.reg barS) 1 0 0 (lv_bar c) (by omega) (by omega)); iexact Hl
    iexact Hat
  iintro ⟨HO, Hat, #Hr, Hpay⟩
  imod (Rounds.cell_close ER (sched X Y) (κ := K (barCell c)) (Set.mem_univ _) (fun h => h) (R := 0 + 1) (duties_later X Y (barCell c))) $$ [Hat] with Hs
  · isplitr; · iapply (inv_bar X Y K c); iexact Hi
    iexact Hat
  ihave Hp := (rest_bar X Y c) $$ Hpay
  icases Hp with ⟨Hy, Hz⟩
  iapply Hk $$ [HO] Hs Hy Hz
  iexists _; iexact HO

/-- A transfer along y, along z before its landing slot is known. -/
def pendY (n : ℕ) : sProp 𝕄 :=
  iprop(dutyTok ER (dCell 0 c n) 0 0 ∗ dutyTok ER (dCell 1 (yR c) n) 0 0 ∗ reached ER (dCell 0 c n) 0 ∗ atPos ER (dCell 0 c n) 0 ∅ 0)
/-- A transfer along `z` before its landing slot is known. -/
def pendZ (n : ℕ) : sProp 𝕄 :=
  iprop(dutyTok ER (dCell 2 c n) 0 0 ∗ dutyTok ER (dCell 3 (zR c) n) 0 0 ∗ reached ER (dCell 2 c n) 0 ∗ atPos ER (dCell 2 c n) 0 ∅ 0)

/-- With the landing slots of the right neighbour, the transfers along `y` are ready. -/
theorem todoY_of : iprop(bigSep (Finset.range 12) (pendY (F := F) c) ∗ bigSep (Finset.range 12) (landY (F := F) (yR c)))
    ⊢ bigSep (Finset.range 12) (todoY (F := F) c) := by
  refine (show _ ⊢ bigSep (Finset.range 12) (fun n => iprop(pendY (F := F) c n ∗ landY (yR c) n)) from Entails.of_eq (bigSep_sep' _ _ _).symm).trans
    (bigSep_mono fun n _ => ?_)
  show iprop(pendY c n ∗ landY (yR c) n) ⊢ todoY c n
  unfold pendY todoY
  iintro ⟨⟨H1, H2, H3, H4⟩, H5⟩
  isplitl [H1]; · iexact H1
  isplitl [H2]; · iexact H2
  isplitl [H3]; · iexact H3
  isplitl [H4]; · iexact H4
  iexact H5
/-- With the landing slots of the right neighbour, the transfers along `z` are ready. -/
theorem todoZ_of : iprop(bigSep (Finset.range 12) (pendZ (F := F) c) ∗ bigSep (Finset.range 12) (landZ (F := F) (zR c)))
    ⊢ bigSep (Finset.range 12) (todoZ (F := F) c) := by
  refine (show _ ⊢ bigSep (Finset.range 12) (fun n => iprop(pendZ (F := F) c n ∗ landZ (zR c) n)) from Entails.of_eq (bigSep_sep' _ _ _).symm).trans
    (bigSep_mono fun n _ => ?_)
  show iprop(pendZ c n ∗ landZ (zR c) n) ⊢ todoZ c n
  unfold pendZ todoZ
  iintro ⟨⟨H1, H2, H3, H4⟩, H5⟩
  isplitl [H1]; · iexact H1
  isplitl [H2]; · iexact H2
  isplitl [H3]; · iexact H3
  isplitl [H4]; · iexact H4
  iexact H5

/-- What the handshake needs beyond the buffers. -/
def Hand (W : Waits sig Unit) : sProp 𝕄 :=
  iprop(invs X Y K ∗ levAts L lv ∗ dutyTok ER (barCell (zL c)) 0 2 ∗ dutyTok ER (barCell (zR c)) 0 3
    ∗ reached ER (barCell (zL c)) 0 ∗ reached ER (barCell (zR c)) 0 ∗ bigSep (Finset.range 12) (landZ (F := F) c)
    ∗ atPos ER (barCell c) 0 ∅ 0 ∗ cred (tallyAt (barCell c) () 4)
    ∗ bigSep (Finset.range 12) (pendY (F := F) c) ∗ bigSep (Finset.range 12) (waitY (F := F) c)
    ∗ bigSep (Finset.range 12) (pendZ (F := F) c) ∗ bigSep (Finset.range 12) (waitZ (F := F) c)
    ∗ owes (c : Thread nD τ) (due c 0 0 + tallyAt (barCell (zR c)) () 1 + tallyAt (barCell (zL c)) () 1) W)

/-- Part 1 of the body: the signals along y. -/
theorem part_1 {Q : _ → sProp 𝕄} (i : grid0.Coords) {W : Waits sig Unit} :
    iprop(invs X Y K ∗ dutyTok ER (barCell (yL c)) 0 0 ∗ dutyTok ER (barCell (yR c)) 0 1 ∗ reached ER (barCell (yL c)) 0 ∗ reached ER (barCell (yR c)) 0
        ∗ bigSep (Finset.range 12) (landY (F := F) c) ∗ owes (c : Thread nD τ) (O₀ c) W)
      ⊢ iprop((∀ (w0 w1 w2 w3 w4 w5 w6 : BitVec 32), owes (c : Thread nD τ) (due c 0 0 + tallyAt (barCell (zR c)) () 1 + tallyAt (barCell (zL c)) () 1) W
          -∗ Q ⟨c, w0, w1, w2, w3, w4, w5, SemArray.scalar (sig.barrier 0 rfl), w6⟩)
        -∗ wpc c (k0_part1 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6) Q) := by
  rw [k0_part1_eq_skeleton]
  unfold k0_part1_skel
  simp only [semSignalWord, Prog.lift, Prog.bind_op, Prog.bind_ret, Prog.pure_eq_ret, wp_deviceId]
  iintro ⟨#Hi, Ht0, Ht1, #Hr0, #Hr1, HL, HO⟩ Hk
  iapply (sig_step (F := F) X Y K c (yL c) 0 (due c 0 0 + tallyAt (barCell (zR c)) () 1 + tallyAt (barCell (zL c)) () 1 + tallyAt (barCell (yR c)) () 1)
      (Fin.ext (k0_dev1_eq c))) $$ [Ht0 HL HO]
  · isplitr; · iexact Hi
    isplitl [Ht0]; · iexact Ht0
    isplitr; · iexact Hr0
    isplitl [HL]; · iapply (Entails.of_eq (barPay_0 (F := F) c).symm); iexact HL
    iexact HO
  iintro HO
  iapply (sig_step (F := F) X Y K c (yR c) 1 (due c 0 0 + tallyAt (barCell (zR c)) () 1 + tallyAt (barCell (zL c)) () 1)
      (Fin.ext (k0_dev2_eq c))) $$ [Ht1 HO]
  · isplitr; · iexact Hi
    isplitl [Ht1]; · iexact Ht1
    isplitr; · iexact Hr1
    isplitr; · iapply (Entails.of_eq (barPay_1 (F := F) (yR c)).symm); iempintro
    iexact HO
  iintro HO
  iapply (wpc_ret (F := F) c)
  iapply Hk $$ %_ %_ %_ %_ %_ %_ %_ HO

/-- Part 2 of the body: the signals along z, the wait, the first column block and its first chunk. -/
theorem part_2 {Q : _ → sProp 𝕄} (i : grid0.Coords) (v2 v5 v14 v16 v20 : BitVec 32) {W : Waits sig Unit} :
    iprop(Hand X Y K c W ∗ owns (c : Thread nD τ) xM fullShare (X c) ∗ owns (c : Thread nD τ) yM fullShare (Y c) ∗ acc X Y c 0 ∗ emC (F := F) c 0)
      ⊢ iprop((∀ (w0 : BitVec 32), semVal (barCell c) 0 -∗ owns (c : Thread nD τ) xM fullShare (X c) -∗ owns (c : Thread nD τ) yM fullShare (Y c) -∗ acc X Y c 1
          -∗ St X Y K c 0 0 0 0 -∗ sndY X Y c 0 -∗ Q ⟨k0_pay1 (X c), w0⟩)
        -∗ wpc c (k0_part2 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6 c v2 v5 v14 v16 (SemArray.scalar (sig.barrier 0 rfl)) v20) Q) := by
  rw [k0_part2_eq_skeleton]
  unfold k0_part2_skel
  simp only [semSignalWord, semWaitWord, Prog.lift, Prog.bind_op, Prog.bind_ret, Prog.pure_eq_ret]
  unfold Hand
  iintro ⟨⟨#Hi, #Hl, Ht2, Ht3, #Hr2, #Hr3, HL, Hat, Hc, HpY, HwY, HpZ, HwZ, HO⟩, HX, HY, HA, HC⟩ Hk
  iapply (sig_step (F := F) X Y K c (zL c) 2 (due c 0 0 + tallyAt (barCell (zR c)) () 1) (Fin.ext (k0_dev3_eq c))) $$ [Ht2 HL HO]
  · isplitr; · iexact Hi
    isplitl [Ht2]; · iexact Ht2
    isplitr; · iexact Hr2
    isplitl [HL]; · iapply (Entails.of_eq (barPay_2 (F := F) c).symm); iexact HL
    iexact HO
  iintro HO
  iapply (sig_step (F := F) X Y K c (zR c) 3 (due c 0 0) (Fin.ext (k0_dev4_eq c))) $$ [Ht3 HO]
  · isplitr; · iexact Hi
    isplitl [Ht3]; · iexact Ht3
    isplitr; · iexact Hr3
    isplitr; · iapply (Entails.of_eq (barPay_3 (F := F) (zR c)).symm); iempintro
    iexact HO
  iintro HO
  iapply (bar_wait (F := F) X Y K c) $$ [Hat Hc HO]
  · isplitr; · iexact Hi
    isplitr; · iexact Hl
    isplitl [Hat]; · iexact Hat
    isplitl [Hc]; · iexact Hc
    iexact HO
  iintro HO Hs HlY HlZ
  iapply (ld_whole (F := F) c xM (X c)) $$ HX
  iintro HX
  iapply (ld_y (F := F) c (Y c) 0 rfl) $$ HY
  iintro HY
  iapply (wp_ld_dead (F := F) c aM) $$ HA
  iintro HA
  iapply (st_acc (F := F) X Y c 0 (by decide) rfl rfl) $$ HA
  iintro HA
  iapply (ld_chunk (F := F) X Y c 0 0 1 (by decide) (aoff0_0 c)) $$ HA
  iintro HA
  icases HC with ⟨%e0, HC⟩
  iapply (ld_slot (F := F) c cM fullShare 0 0 _ rfl) $$ HC
  iintro HC
  iapply (st_first (F := F) X Y c 0 (by decide) _ rfl rfl) $$ HC
  iintro HC
  iapply (wpc_ret (F := F) c)
  iapply Hk $$ %_ Hs HX HY HA [HO HlY HlZ HpY HwY HpZ HwZ] HC
  iapply (Entails.of_eq (St_eq X Y K c 0 0 0 0).symm)
  isplitr; · iexact Hi
  isplitr; · iexact Hl
  isplitl [HpY HlY]
  · iapply (Entails.of_eq (prog_zero 12 (todoY (F := F) c) (goneY c)).symm)
    iapply (todoY_of (F := F) c)
    isplitl [HpY]; · iexact HpY
    iexact HlY
  isplitl [HwY]
  · iapply (Entails.of_eq (prog_zero 12 (waitY (F := F) c) (gotY c)).symm); iexact HwY
  isplitl [HpZ HlZ]
  · iapply (Entails.of_eq (prog_zero 12 (todoZ (F := F) c) (goneZ X Y c)).symm)
    iapply (todoZ_of (F := F) c)
    isplitl [HpZ]; · iexact HpZ
    iexact HlZ
  isplitl [HwZ]
  · iapply (Entails.of_eq (prog_zero 12 (waitZ (F := F) c) (gotZ c)).symm); iexact HwZ
  iexact HO

end Cert.Ring
-- ==== Proof.Body.lean ====
/-
  The whole body of the kernel: from the operands' blocks and fresh buffers to the result and the closed cells.
-/
module

public import proofs.«01_k».proof.Proof.Hand

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (X Y : Dev nD → Vec F S1024x1024 .bf16) (K : GSem nD τ sig → ℕ) (c : Dev nD)

/-- What the body starts from: the handshake's tokens, and the buffers. -/
def Pre (W : Waits sig Unit) : sProp 𝕄 :=
  iprop(invs X Y K ∗ levAts L lv
    ∗ (dutyTok ER (barCell (yL c)) 0 0 ∗ dutyTok ER (barCell (yR c)) 0 1 ∗ dutyTok ER (barCell (zL c)) 0 2 ∗ dutyTok ER (barCell (zR c)) 0 3)
    ∗ (reached ER (barCell (yL c)) 0 ∗ reached ER (barCell (yR c)) 0 ∗ reached ER (barCell (zL c)) 0 ∗ reached ER (barCell (zR c)) 0)
    ∗ bigSep (Finset.range 12) (landY (F := F) c) ∗ bigSep (Finset.range 12) (landZ (F := F) c)
    ∗ atPos ER (barCell c) 0 ∅ 0 ∗ cred (tallyAt (barCell c) () 4)
    ∗ bigSep (Finset.range 12) (pendY (F := F) c) ∗ bigSep (Finset.range 12) (waitY (F := F) c)
    ∗ bigSep (Finset.range 12) (pendZ (F := F) c) ∗ bigSep (Finset.range 12) (waitZ (F := F) c)
    ∗ owes (c : Thread nD τ) (O₀ c) W
    ∗ owns (c : Thread nD τ) xM fullShare (X c) ∗ owns (c : Thread nD τ) yM fullShare (Y c) ∗ acc X Y c 0 ∗ out X Y c 0
    ∗ (emC (F := F) c 0 ∗ emC (F := F) c 1 ∗ emC (F := F) c 2 ∗ emC (F := F) c 3)
    ∗ (emG (F := F) c 0 ∗ emG (F := F) c 1 ∗ emG (F := F) c 2 ∗ emG (F := F) c 3))

/-- What it ends with, `bz` transfers along z known to have left. -/
def Post (bz : ℕ) : sProp 𝕄 :=
  iprop(Fn X Y K c 12 bz ∗ semVal (barCell c) 0
    ∗ owns (c : Thread nD τ) xM fullShare (X c) ∗ owns (c : Thread nD τ) yM fullShare (Y c) ∗ acc X Y c 4 ∗ out X Y c 16
    ∗ (rcvY X Y c 8 ∗ rcvY X Y c 9 ∗ rcvY X Y c 10 ∗ rcvY X Y c 11) ∗ lastZ X Y c 4)

/-- The parts in their order. -/
theorem part_43 {Q : _ → sProp 𝕄} (i : grid0.Coords) {W : Waits sig Unit} :
    Pre X Y K c W ⊢ iprop((Post X Y K c 11 -∗ Q c)
      -∗ wpc c (k0_part43 (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6) Q) := by
  rw [k0_part43_eq_skeleton]
  unfold k0_part43_skel
  simp only [Prog.lift, Prog.bind_op, Prog.bind_ret, Prog.pure_eq_ret, wp_bind]
  unfold Pre
  iintro ⟨#Hi, #Hl, ⟨Ht0, Ht1, Ht2, Ht3⟩, ⟨#Hr0, #Hr1, #Hr2, #Hr3⟩, HlY, HlZ, Hat, Hc, HpY, HwY, HpZ, HwZ, HOw, HX, HY, HA, HO, ⟨HC00, HC10, HC20, HC30⟩, ⟨HG0, HG1, HG2, HG3⟩⟩ Hk
  iapply (part_1 (F := F) X Y K c i) $$ [Ht0 Ht1 HlY HOw]
  · isplitr; · iexact Hi
    isplitl [Ht0]; · iexact Ht0
    isplitl [Ht1]; · iexact Ht1
    isplitr; · iexact Hr0
    isplitr; · iexact Hr1
    isplitl [HlY]; · iexact HlY
    iexact HOw
  iintro %_ %_ %_ %_ %_ %_ %_ HOw
  iapply (part_2 (F := F) X Y K c i _ _ _ _ _) $$ [Ht2 Ht3 HlZ Hat Hc HpY HwY HpZ HwZ HOw HX HY HA HC00]
  · isplitr [HX HY HA HC00]
    · unfold Hand
      isplitr; · iexact Hi
      isplitr; · iexact Hl
      isplitl [Ht2]; · iexact Ht2
      isplitl [Ht3]; · iexact Ht3
      isplitr; · iexact Hr2
      isplitr; · iexact Hr3
      isplitl [HlZ]; · iexact HlZ
      isplitl [Hat]; · iexact Hat
      isplitl [Hc]; · iexact Hc
      isplitl [HpY]; · iexact HpY
      isplitl [HwY]; · iexact HwY
      isplitl [HpZ]; · iexact HpZ
      isplitl [HwZ]; · iexact HwZ
      iexact HOw
    isplitl [HX]; · iexact HX
    isplitl [HY]; · iexact HY
    isplitl [HA]; · iexact HA
    iexact HC00
  iintro %_ Hb HX HY HA HS HC00
  -- part 3
  iapply (part_3 (F := F) X Y K c i _ _ _ _) $$ [HC00 HS HY HA HC10]
  · isplitl [HC00]; · iexact HC00
    isplitl [HS]; · iexact HS
    isplitl [HY]; · iexact HY
    isplitl [HA]; · iexact HA
    iexact HC10
  iintro HY HA HS HC10
  -- part 4
  iapply (part_4 (F := F) X Y K c i _ _ _ _) $$ [HC10 HS HY HA HC20]
  · isplitl [HC10]; · iexact HC10
    isplitl [HS]; · iexact HS
    isplitl [HY]; · iexact HY
    isplitl [HA]; · iexact HA
    iexact HC20
  iintro HY HA HS HC20
  -- part 5
  iapply (part_5 (F := F) X Y K c i _ _ _ _) $$ [HC20 HS HY HA HC30]
  · isplitl [HC20]; · iexact HC20
    isplitl [HS]; · iexact HS
    isplitl [HY]; · iexact HY
    isplitl [HA]; · iexact HA
    iexact HC30
  iintro %_ HY HA HS HC30
  -- part 6
  iapply (part_6 (F := F) X Y K c i _ _ _ _ _) $$ [HC30 HS]
  · isplitl [HC30]; · iexact HC30
    iexact HS
  iintro %_ HS HC01
  -- part 7
  iapply (part_7 (F := F) X Y K c i _ _ _ _) $$ [HA HC01 HS]
  · isplitl [HA]; · iexact HA
    isplitl [HC01]; · iexact HC01
    iexact HS
  iintro %_ %_ HA HS
  -- part 8
  iapply (part_8 (F := F) X Y K c i _ _ _ _ _ _) $$ [HS HA]
  · isplitl [HS]; · iexact HS
    iexact HA
  iintro HA HS HC11
  -- part 9
  iapply (part_9 (F := F) X Y K c i _ _ _ _) $$ [HC11 HS HA]
  · isplitl [HC11]; · iexact HC11
    isplitl [HS]; · iexact HS
    iexact HA
  iintro HA HS HC21
  -- part 10
  iapply (part_10 (F := F) X Y K c i _ _ _) $$ [HC21 HS]
  · isplitl [HC21]; · iexact HC21
    iexact HS
  iintro HS HC31
  -- part 11
  iapply (part_11 (F := F) X Y K c i _ _ _ _ _) $$ [HC31 HA HS]
  · isplitl [HC31]; · iexact HC31
    isplitl [HA]; · iexact HA
    iexact HS
  iintro %_ HA HS
  -- part 12
  iapply (part_12 (F := F) X Y K c i _ _ _ _) $$ [HS HA]
  · isplitl [HS]; · iexact HS
    iexact HA
  iintro %_ HA HS HC02
  -- part 13
  iapply (part_13 (F := F) X Y K c i _ _ _ _ _) $$ [HC02 HS HA]
  · isplitl [HC02]; · iexact HC02
    isplitl [HS]; · iexact HS
    iexact HA
  iintro HA HS HC12
  -- part 14
  iapply (part_14 (F := F) X Y K c i _ _ _) $$ [HC12 HS]
  · isplitl [HC12]; · iexact HC12
    iexact HS
  iintro HS
  -- part 15
  iapply (part_15 (F := F) X Y K c i _ _ _ _) $$ [HS HA]
  · isplitl [HS]; · iexact HS
    iexact HA
  iintro HA HS HC22
  -- part 16
  iapply (part_16 (F := F) X Y K c i _ _ _ _) $$ [HC22 HS HA]
  · isplitl [HC22]; · iexact HC22
    isplitl [HS]; · iexact HS
    iexact HA
  iintro HA HS HC32
  -- part 17
  iapply (part_17 (F := F) X Y K c i _ _ _ _) $$ [HC32 HS]
  · isplitl [HC32]; · iexact HC32
    iexact HS
  iintro %_ HS HC03
  -- part 18
  iapply (part_18 (F := F) X Y K c i _ _ _ _ _) $$ [HC03 HA HG0 HS]
  · isplitl [HC03]; · iexact HC03
    isplitl [HA]; · iexact HA
    isplitl [HG0]; · iexact HG0
    iexact HS
  iintro HA HS HC03
  -- part 19
  iapply (part_19 (F := F) X Y K c i _ _ _ _ _) $$ [HS HA HG1]
  · isplitl [HS]; · iexact HS
    isplitl [HA]; · iexact HA
    iexact HG1
  iintro %_ %_ HA HS HC13 HZ1
  -- part 20
  iapply (part_20 (F := F) X Y K c i _ _ _ _ _ _ _) $$ [HZ1 HS HA]
  · isplitl [HZ1]; · iexact HZ1
    isplitl [HS]; · iexact HS
    iexact HA
  iintro HA HS HC23
  -- part 21
  iapply (part_21 (F := F) X Y K c i _ _ _ _ _) $$ [HG2 HS]
  · isplitl [HG2]; · iexact HG2
    iexact HS
  iintro HS
  -- part 22
  iapply (part_22 (F := F) X Y K c i _ _ _ _ _) $$ [HS HA HG3]
  · isplitl [HS]; · iexact HS
    isplitl [HA]; · iexact HA
    iexact HG3
  iintro HA HS HC33 HZ3
  -- part 23
  iapply (part_23 (F := F) X Y K c i _ _ _ _) $$ [HZ3 HS]
  · isplitl [HZ3]; · iexact HZ3
    iexact HS
  iintro HS HZ4
  -- part 24
  iapply (part_24 (F := F) X Y K c i _ _ _ _) $$ [HZ4 HS]
  · isplitl [HZ4]; · iexact HZ4
    iexact HS
  iintro HS HZ5
  -- part 25
  iapply (part_25 (F := F) X Y K c i _ _ _ _) $$ [HZ5 HS]
  · isplitl [HZ5]; · iexact HZ5
    iexact HS
  iintro HS HZ6
  -- part 26
  iapply (part_26 (F := F) X Y K c i _ _ _ _) $$ [HZ6 HS]
  · isplitl [HZ6]; · iexact HZ6
    iexact HS
  iintro HS HZ7
  -- part 27
  iapply (part_27 (F := F) X Y K c i _ _ _ _) $$ [HZ7 HS]
  · isplitl [HZ7]; · iexact HZ7
    iexact HS
  iintro HS HZ8
  -- part 28
  iapply (part_28 (F := F) X Y K c i _ _ _ _) $$ [HZ8 HS]
  · isplitl [HZ8]; · iexact HZ8
    iexact HS
  iintro HS HZ9
  -- part 29
  iapply (part_29 (F := F) X Y K c i _ _ _ _) $$ [HZ9 HS]
  · isplitl [HZ9]; · iexact HZ9
    iexact HS
  iintro HS HZ10
  -- part 30
  iapply (part_30 (F := F) X Y K c i _ _ _ _) $$ [HZ10 HS]
  · isplitl [HZ10]; · iexact HZ10
    iexact HS
  iintro HS HZ11
  -- part 31
  iapply (part_31 (F := F) X Y K c i _ _ _) $$ [HZ11 HS]
  · isplitl [HZ11]; · iexact HZ11
    iexact HS
  iintro HS HZ12 HZ13
  -- part 32
  iapply (part_32 (F := F) X Y K c i _ _ _) $$ [HS HZ12 HZ13]
  · isplitl [HS]; · iexact HS
    isplitl [HZ12]; · iexact HZ12
    iexact HZ13
  iintro HF HL
  -- part 33
  iapply (part_33 (F := F) X Y K c i) $$ [HO HF HL]
  · isplitl [HO]; · iexact HO
    isplitl [HF]; · iexact HF
    iexact HL
  iintro HO HF HL
  -- part 34
  iapply (part_34 (F := F) X Y K c i) $$ [HF HL HO]
  · isplitl [HF]; · iexact HF
    isplitl [HL]; · iexact HL
    iexact HO
  iintro HO HF HL
  -- part 35
  iapply (part_35 (F := F) X Y K c i) $$ [HO HF HL]
  · isplitl [HO]; · iexact HO
    isplitl [HF]; · iexact HF
    iexact HL
  iintro HO HF HL
  -- part 36
  iapply (part_36 (F := F) X Y K c i) $$ HF
  iintro HF
  -- part 37
  iapply (part_37 (F := F) X Y K c i) $$ HF
  iintro HF
  -- part 38
  iapply (part_38 (F := F) X Y K c i) $$ HF
  iintro HF
  -- part 39
  iapply (part_39 (F := F) X Y K c i) $$ HF
  iintro HF
  -- part 40
  iapply (part_40 (F := F) X Y K c i) $$ HF
  iintro HF
  -- part 41
  iapply (part_41 (F := F) X Y K c i) $$ HF
  iintro HF
  -- part 42
  iapply (part_42 (F := F) X Y K c i) $$ HF
  iintro HF
  -- the last operation of this part
  iapply (bk_Z (F := F) X Y K c 10 (by decide) rfl) $$ HF
  iintro HF
  iapply (wpc_ret (F := F) c)
  iapply Hk
  unfold Post
  isplitl [HF]; · iexact HF
  isplitl [Hb]; · iexact Hb
  isplitl [HX]; · iexact HX
  isplitl [HY]; · iexact HY
  isplitl [HA]; · iexact HA
  isplitl [HO]; · iexact HO
  isplitl [HC03 HC13 HC23 HC33]
  · isplitl [HC03]; · iexact HC03
    isplitl [HC13]; · iexact HC13
    isplitl [HC23]; · iexact HC23
    iexact HC33
  iexact HL

/-- The body. -/
theorem body_run {Q : _ → sProp 𝕄} (i : grid0.Coords) {W : Waits sig Unit} :
    Pre X Y K c W ⊢ iprop((Post X Y K c 12 -∗ Q ⟨⟩)
      -∗ wpc c (cc0_body (F := F) i xM (Memref.isWhole_whole _) yM (Memref.isWhole_whole _) oM (Memref.isWhole_whole _) aM (Memref.isWhole_whole _) cM (Memref.isWhole_whole _) gM (Memref.isWhole_whole _) cc0_scratch3 cc0_scratch4 cc0_scratch5 cc0_scratch6) Q) := by
  rw [cc0_body_eq_skeleton]
  unfold cc0_body_skel
  simp only [Prog.lift, Prog.bind_op, Prog.bind_ret, Prog.pure_eq_ret, wp_bind]
  iintro H Hk
  iapply (part_43 (F := F) X Y K c i) $$ H
  unfold Post
  iintro ⟨HF, H⟩
  iapply (bk_Z (F := F) X Y K c 11 (by decide) rfl) $$ HF
  iintro HF
  iapply (wpc_ret (F := F) c)
  iapply Hk
  isplitl [HF]; · iexact HF
  iexact H

end Cert.Ring
-- ==== Proof.Slots.lean ====
/-
  The communication buffers as sixteen slots, the accumulator and the result as columns: from whole buffers
  at arbitrary contents before the body, and back after it.
-/
module

public import proofs.«01_k».proof.Proof.Body

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

instance elt_nonempty (e : EltTy) : Nonempty (Elt F e) := inferInstance

/-! ## Sixteen slots -/

section Slots

variable (c : Dev nD) (M : Memref sig .tc .vmem S4x4x256x256 .bf16) (σ : ℕ → ℕ)

/-- Slot `t % 4` of the row numbered `t / 4` in the order `σ`, at some contents. -/
abbrev anySlot (t : ℕ) : sProp 𝕄 := iprop(∃ v, owns (c : Thread nD τ) (M.slice (slotR t (σ (t / 4))) (fun _ => rfl)) fullShare v)

/-- A slot at known contents is a slot at some contents, its coordinates taken modulo four. -/
theorem any_of {a b a' b' : ℕ} (v : Vec F S1x1x256x256 .bf16) (ha : a % 4 = a' % 4) (hb : b % 4 = b' % 4) :
    (owns (c : Thread nD τ) (M.slice (slotR a b) (fun _ => rfl)) fullShare v : sProp 𝕄)
      ⊢ iprop(∃ v, owns (c : Thread nD τ) (M.slice (slotR a' b') (fun _ => rfl)) fullShare v) := by
  iintro H; iexists v
  iapply (own_congr c fullShare ha hb rfl) $$ H
/-- A slot at some contents, named by coordinates equal modulo four. -/
theorem any_any {a b a' b' : ℕ} (ha : a % 4 = a' % 4) (hb : b % 4 = b' % 4) :
    iprop(∃ v : Vec F S1x1x256x256 .bf16, owns (c : Thread nD τ) (M.slice (slotR a b) (fun _ => rfl)) fullShare v)
      ⊢ (iprop(∃ v, owns (c : Thread nD τ) (M.slice (slotR a' b') (fun _ => rfl)) fullShare v) : sProp 𝕄) := by
  iintro ⟨%v, H⟩; iexists v
  iapply (own_congr c fullShare ha hb rfl) $$ H

/-- The sixteen slots are disjoint. -/
theorem slots_disj (hσ : ∀ a b, a < 4 → b < 4 → σ a % 4 = σ b % 4 → a = b) (t t' : Fin 16) (h : t ≠ t') :
    Disjoint (slotR t.val (σ (t.val / 4))).set (slotR t'.val (σ (t'.val / 4))).set := by
  by_cases h0 : t.val % 4 = t'.val % 4
  · have h1 : σ (t.val / 4) % 4 ≠ σ (t'.val / 4) % 4 := fun e => by
      have := hσ _ _ (by omega) (by omega) e
      exact h (Fin.ext (by omega))
    refine Rect.unit_disjoint (1 : Fin 4) ?_
    show σ (t.val / 4) % 4 + 1 ≤ σ (t'.val / 4) % 4 ∨ σ (t'.val / 4) % 4 + 1 ≤ σ (t.val / 4) % 4
    omega
  · refine Rect.unit_disjoint (0 : Fin 4) ?_
    show t.val % 4 + 1 ≤ t'.val % 4 ∨ t'.val % 4 + 1 ≤ t.val % 4
    omega

/-- The sixteen slots cover the buffer. -/
theorem slots_cov (hs : ∀ j, j < 4 → ∃ b, b < 4 ∧ σ b % 4 = j) :
    (Finset.univ : Finset (Fin 16)).biUnion (fun t => (slotR t.val (σ (t.val / 4))).set) = Finset.univ := by
  refine Finset.eq_univ_iff_forall.mpr fun x => Finset.mem_biUnion.mpr ?_
  have h0 : (x 0).val < 4 := (x 0).isLt
  have h1 : (x 1).val < 4 := (x 1).isLt
  have h2 : (x 2).val < 256 := (x 2).isLt
  have h3 : (x 3).val < 256 := (x 3).isLt
  obtain ⟨b, hb, e⟩ := hs _ h1
  refine ⟨⟨4 * b + (x 0).val, by omega⟩, Finset.mem_univ _, Rect.mem_set_unit.mpr fun a => ?_⟩
  have e4 : (4 * b + (x 0).val) / 4 = b := by omega
  match a with
  | 0 => show (4 * b + (x 0).val) % 4 ≤ (x 0).val ∧ (x 0).val < (4 * b + (x 0).val) % 4 + 1; omega
  | 1 =>
    show σ ((4 * b + (x 0).val) / 4) % 4 ≤ (x 1).val ∧ (x 1).val < σ ((4 * b + (x 0).val) / 4) % 4 + 1
    rw [e4, e]; omega
  | 2 => show 0 ≤ (x 2).val ∧ (x 2).val < 0 + 256; omega
  | 3 => show 0 ≤ (x 3).val ∧ (x 3).val < 0 + 256; omega

/-- A conjunction over sixteen indices, by natural numbers. -/
theorem range_fin16 (Φ : ℕ → sProp 𝕄) : bigSep (Finset.univ : Finset (Fin 16)) (fun t => Φ t.val) = bigSep (Finset.range 16) Φ := by
  rw [show Finset.range 16 = (Finset.univ : Finset (Fin 16)).map Fin.valEmbedding from by decide, bigSep_map]; rfl

/-- A whole buffer at some contents is its slots, each at some. -/
theorem slots_split (hσ : ∀ a b, a < 4 → b < 4 → σ a % 4 = σ b % 4 → a = b) (hs : ∀ j, j < 4 → ∃ b, b < 4 ∧ σ b % 4 = j)
    (X : Vec F S4x4x256x256 .bf16) :
    (owns (c : Thread nD τ) M fullShare X : sProp 𝕄) ⊢ bigSep (Finset.range 16) (anySlot (F := F) c M σ) := by
  rw [← range_fin16 (F := F)]
  refine (owns_rects (c : Thread nD τ) M fullShare (fun t : Fin 16 => slotR t.val (σ (t.val / 4))) (fun _ _ => rfl)
    (slots_disj σ hσ) (slots_cov σ hs) X).trans (bigSep_mono fun t _ => any_of c M _ rfl rfl)
/-- And back. -/
theorem slots_join (hσ : ∀ a b, a < 4 → b < 4 → σ a % 4 = σ b % 4 → a = b) (hs : ∀ j, j < 4 → ∃ b, b < 4 ∧ σ b % 4 = j) :
    bigSep (Finset.range 16) (anySlot (F := F) c M σ) ⊢ iprop(∃ X, owns (c : Thread nD τ) M fullShare X) := by
  rw [← range_fin16 (F := F)]
  haveI : ∀ t : Fin 16, Nonempty ((slotR t.val (σ (t.val / 4))).shape.Idx → Elt F .bf16) := fun t => ⟨fun _ => Classical.choice (elt_nonempty .bf16)⟩
  refine (bigSep_exists_pi Finset.univ (fun (t : Fin 16) v =>
    owns (c : Thread nD τ) (M.slice (slotR t.val (σ (t.val / 4))) (fun _ => rfl)) fullShare v)).trans ?_
  iintro ⟨%Xs, H⟩
  iexists (Rect.glue (fun t : Fin 16 => slotR t.val (σ (t.val / 4))) (slots_cov σ hs) Xs)
  iapply (owns_of_rects (c : Thread nD τ) M fullShare (fun t : Fin 16 => slotR t.val (σ (t.val / 4))) (fun _ _ => rfl)
    (slots_disj σ hσ) (slots_cov σ hs) _)
  simp only [Rect.glue_emb _ (slots_cov σ hs) (slots_disj σ hσ)]
  iexact H

/-- Sixteen in order are the first `k` and the others. -/
theorem range_cut (k l : ℕ) (h : k + l = 16) (Φ : ℕ → sProp 𝕄) :
    bigSep (Finset.range 16) Φ = iprop(bigSep (Finset.range k) Φ ∗ bigSep (Finset.range l) fun n => Φ (n + k)) := by
  have e : Finset.range 16 = Finset.range k ∪ (Finset.range l).map (addRightEmbedding k) := by
    ext x
    simp only [Finset.mem_union, Finset.mem_range, Finset.mem_map, addRightEmbedding_apply]
    constructor
    · intro hx
      by_cases hk : x < k
      · exact .inl hk
      · exact .inr ⟨x - k, by omega, by omega⟩
    · rintro (hx | ⟨y, hy, rfl⟩) <;> omega
  have hd : Disjoint (Finset.range k) ((Finset.range l).map (addRightEmbedding k)) := by
    rw [Finset.disjoint_left]
    intro x hx hy
    obtain ⟨y, -, rfl⟩ := Finset.mem_map.mp hy
    rw [Finset.mem_range, addRightEmbedding_apply] at hx; omega
  rw [e, bigSep_union hd, bigSep_map]; rfl

/-- A conjunction over four, written out. -/
theorem range_four (Φ : ℕ → sProp 𝕄) : bigSep (Finset.range 4) Φ = iprop(Φ 0 ∗ Φ 1 ∗ Φ 2 ∗ Φ 3) := by
  rw [show Finset.range 4 = {0, 1, 2, 3} from by decide, bigSep_insert (by decide), bigSep_insert (by decide), bigSep_insert (by decide), bigSep_singleton]
  rfl

end Slots

/-! ## The reduce buffer and the gather buffer -/

/-- The plain order of the slots repeats none. -/
theorem id_inj : ∀ a b, a < 4 → b < 4 → (fun b : ℕ => b) a % 4 = (fun b : ℕ => b) b % 4 → a = b := by
  intro a b _ _ h; dsimp only at h; omega
/-- The plain order of the slots leaves none out. -/
theorem id_cov : ∀ j, j < 4 → ∃ b, b < 4 ∧ (fun b : ℕ => b) b % 4 = j := fun j h => ⟨j, h, by dsimp only; omega⟩
/-- The order in which a device fills its gather slots repeats none. -/
theorem zq_inj (c : Dev nD) : ∀ a b, a < 4 → b < 4 → zq c a % 4 = zq c b % 4 → a = b := by
  intro a b _ _ h; simp only [zq] at h; omega
/-- The order in which a device fills its gather slots leaves none out. -/
theorem zq_cov (c : Dev nD) : ∀ j, j < 4 → ∃ b, b < 4 ∧ zq c b % 4 = j := fun j h =>
  ⟨(c.val % 4 + (4 - j)) % 4, by omega, by simp only [zq]; omega⟩

variable (X Y : Dev nD → Vec F S1024x1024 .bf16) (K : GSem nD τ sig → ℕ) (c : Dev nD)

/-- The reduce buffer: the slots the device fills itself, and those its left neighbour sends into. -/
theorem split_c (f : Vec F S4x4x256x256 .bf16) : (owns (c : Thread nD τ) cM fullShare f : sProp 𝕄)
    ⊢ iprop((emC (F := F) c 0 ∗ emC (F := F) c 1 ∗ emC (F := F) c 2 ∗ emC (F := F) c 3)
      ∗ bigSep (Finset.range 12) fun n => iprop(∃ v, cOwn (F := F) c n (n / 4 + 1) v)) := by
  refine (slots_split c cM (fun b => b) id_inj id_cov f).trans ?_
  rw [range_cut 4 12 rfl, range_four]
  refine sep_mono .rfl (bigSep_mono fun n _ => any_any c cM (by omega) (by dsimp only; omega))
/-- The gather buffer splits into the four slots that the device fills itself and the twelve that its left neighbour fills. -/
theorem split_g (f : Vec F S4x4x256x256 .bf16) : (owns (c : Thread nD τ) gM fullShare f : sProp 𝕄)
    ⊢ iprop((emG (F := F) c 0 ∗ emG (F := F) c 1 ∗ emG (F := F) c 2 ∗ emG (F := F) c 3)
      ∗ bigSep (Finset.range 12) fun n => iprop(∃ v, gOwn (F := F) c fullShare n (zq c (n / 4 + 1)) v)) := by
  refine (slots_split c gM (zq c) (zq_inj c) (zq_cov c) f).trans ?_
  rw [range_cut 4 12 rfl, range_four]
  refine sep_mono .rfl (bigSep_mono fun n _ => any_any c gM (by omega) (by rw [show (n + 4) / 4 = n / 4 + 1 from by omega]))

/-- The slots sent and the slots received last make the reduce buffer whole again; -/
theorem join_c : iprop((bigSep (Finset.range 12) fun n => sndY X Y c n) ∗ (rcvY X Y c 8 ∗ rcvY X Y c 9 ∗ rcvY X Y c 10 ∗ rcvY X Y c 11))
    ⊢ iprop(∃ f, owns (c : Thread nD τ) cM fullShare f) := by
  refine BI.Entails.trans ?_ (slots_join c cM (fun b => b) id_inj id_cov)
  rw [range_cut 12 4 rfl, range_four]
  refine sep_mono (bigSep_mono fun n _ => any_of c cM _ rfl rfl) (sep_mono ?_ (sep_mono ?_ (sep_mono ?_ ?_)))
  all_goals exact any_of c cM _ (by decide) (by decide)
/-- so do those of the gather buffer. -/
theorem join_g : iprop((bigSep (Finset.range 12) fun n => sndZ X Y c n) ∗ lastZ X Y c 4)
    ⊢ iprop(∃ f, owns (c : Thread nD τ) gM fullShare f) := by
  refine BI.Entails.trans ?_ (slots_join c gM (zq c) (zq_inj c) (zq_cov c))
  rw [range_cut 12 4 rfl]
  unfold lastZ
  exact sep_mono (bigSep_mono fun n _ => any_of c gM _ rfl rfl)
    (bigSep_mono fun n hn => any_of c gM _ (by omega) (by rw [show (n + 12) / 4 = (8 + n) / 4 + 1 from by omega]))

/-! ## The accumulator and the result -/

/-- The element of a block at row `p` and column `q`. -/
def cell (p q : ℕ) : S256x256.Idx := fun a => match a with
  | 0 => ⟨p % 256, Nat.mod_lt _ (by decide)⟩
  | 1 => ⟨q % 256, Nat.mod_lt _ (by decide)⟩

/-- The result of device `c`, block by block. -/
def res : Vec F S256x4096 .f32 := fun i =>
  oBlk X Y c ((i 1).val / 256) (cell (i 0).val (i 1).val)

/-- The accumulator at any contents has no columns computed. -/
theorem acc_zero (f : Vec F S1024x1024 .f32) : (owns (c : Thread nD τ) aM fullShare f : sProp 𝕄) ⊢ acc X Y c 0 := by
  unfold acc cols
  iintro H; iexists f; isplitr; · ipureintro; exact fun t h => absurd h (Nat.not_lt_zero t)
  iexact H
/-- The accumulator, however far computed, is held at some contents. -/
theorem acc_any (k : ℕ) : acc X Y c k ⊢ iprop(∃ f, owns (c : Thread nD τ) aM fullShare f) := by
  unfold acc cols
  iintro ⟨%f, -, H⟩; iexists f; iexact H
/-- The result's buffer at any contents has no blocks written. -/
theorem out_zero (f : Vec F S256x4096 .f32) : (owns (c : Thread nD τ) oM fullShare f : sProp 𝕄) ⊢ out X Y c 0 := by
  unfold out cols
  iintro H; iexists f; isplitr; · ipureintro; exact fun t h => absurd h (Nat.not_lt_zero t)
  iexact H
/-- With all sixteen blocks written the buffer holds the result. -/
theorem out_all : out X Y c 16 ⊢ owns (c : Thread nD τ) oM fullShare (res X Y c) := by
  unfold out cols
  iintro ⟨%f, %hf, H⟩
  have e : f = res X Y c := funext fun i => by
    have h0 : (i 0).val < 256 := (i 0).isLt
    have h1 : (i 1).val < 4096 := (i 1).isLt
    have hi : i = (colO ((i 1).val / 256)).emb (cell (i 0).val (i 1).val) := funext fun a => by
      match a with
      | 0 => refine Fin.ext ?_; show (i 0).val = 0 + 1 * ((i 0).val % 256); omega
      | 1 => refine Fin.ext ?_; show (i 1).val = 256 * ((i 1).val / 256 % 16) + 1 * ((i 1).val % 256); omega
    exact (congrArg f hi).trans (hf ((i 1).val / 256) (by omega) _)
  rw [e]
  iexact H

end Cert.Ring
-- ==== Proof.Opened.lean ====
/-
  The ghost state a device holds before the body runs: as the launch deals it, and with its DMA cells opened; what the
  body starts from and ends with, in terms of whole buffers.
-/
module

public import proofs.«01_k».proof.Proof.Slots
public import proofs.«01_k».proof.Proof.Gen.KernelIdeal.Points

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (X Y : Dev nD → Vec F S1024x1024 .bf16) (K : GSem nD τ sig → ℕ) (c : Dev nD)

/-! ## Two families side by side -/

/-- Two conjunctions over the same indices, as one. -/
theorem zip {I : Type} {s : Finset I} {Φ Ψ : I → sProp 𝕄} : iprop(bigSep s Φ ∗ bigSep s Ψ) ⊢ bigSep s (fun i => iprop(Φ i ∗ Ψ i)) :=
  Entails.of_eq (bigSep_sep' _ _ _).symm
/-- One conjunction of pairs, as two. -/
theorem unzip {I : Type} {s : Finset I} {Φ Ψ : I → sProp 𝕄} : bigSep s (fun i => iprop(Φ i ∗ Ψ i)) ⊢ iprop(bigSep s Φ ∗ bigSep s Ψ) :=
  Entails.of_eq (bigSep_sep' _ _ _)

/-! ## The 48 DMA cells, by array and transfer -/

/-- Transfer `n` of array `j`, among the 48. -/
def ixE (j : Fin 4) : Fin 12 ↪ Fin 48 := ⟨fun n => ix j.val n.val, by revert j; decide⟩

omit [FloatOps F] in
/-- The 48 places are those of the four arrays. -/
theorem ix_parts : (Finset.univ : Finset (Fin 48))
    = Finset.univ.map (ixE 0) ∪ (Finset.univ.map (ixE 1) ∪ (Finset.univ.map (ixE 2) ∪ Finset.univ.map (ixE 3))) := by decide

/-- A conjunction over twelve indices, by natural numbers. -/
theorem range_fin12 (Φ : ℕ → sProp 𝕄) : bigSep (Finset.univ : Finset (Fin 12)) (fun t => Φ t.val) = bigSep (Finset.range 12) Φ := by
  rw [show Finset.range 12 = Finset.univ.map (⟨fun t : Fin 12 => t.val, Fin.val_injective⟩ : Fin 12 ↪ ℕ) from by decide, bigSep_map]
  rfl

/-- A separating conjunction over the 48 cells is one over each array's twelve transfers. -/
theorem fin48 (Φ : Fin 48 → sProp 𝕄) : bigSep Finset.univ Φ
    = iprop(bigSep (Finset.range 12) (fun n => Φ (ix 0 n)) ∗ bigSep (Finset.range 12) (fun n => Φ (ix 1 n))
      ∗ bigSep (Finset.range 12) (fun n => Φ (ix 2 n)) ∗ bigSep (Finset.range 12) (fun n => Φ (ix 3 n))) := by
  have e (j : Fin 4) : bigSep (Finset.univ.map (ixE j)) Φ = bigSep (Finset.range 12) (fun n => Φ (ix j.val n)) := by
    rw [bigSep_map, ← range_fin12]
    rfl
  rw [ix_parts, bigSep_union (by decide), bigSep_union (by decide), bigSep_union (by decide), e 0, e 1, e 2, e 3]
  rfl

/-- The kernel's own counters: the 48 DMA semaphores. -/
abbrev osem (k : Fin 48) : SemLoc sig := .dma (⟨3 + k.val, by have := k.isLt; show _ < 51; omega⟩ : DmaSem sig)

/-- The kernel's own semaphores are the 48 DMA semaphores. -/
theorem ownSems_eq : (Pipeline.ownSems0 osem c : sProp 𝕄) = bigSep Finset.univ (fun k : Fin 48 => semVal (tCell (c, k)) 0) := rfl

/-! ## What a device holds -/

/-- The barrier duties that device `c` pays. -/
def barTok : sProp 𝕄 :=
  iprop(dutyTok ER (barCell (yL c)) 0 0 ∗ dutyTok ER (barCell (yR c)) 0 1 ∗ dutyTok ER (barCell (zL c)) 0 2 ∗ dutyTok ER (barCell (zR c)) 0 3)
/-- The DMA duties that it pays. -/
def dmaTok : sProp 𝕄 :=
  iprop(bigSep (Finset.range 12) (fun n => dutyTok ER (dCell 0 c n) 0 0) ∗ bigSep (Finset.range 12) (fun n => dutyTok ER (dCell 1 (yR c) n) 0 0)
    ∗ bigSep (Finset.range 12) (fun n => dutyTok ER (dCell 2 c n) 0 0) ∗ bigSep (Finset.range 12) (fun n => dutyTok ER (dCell 3 (zR c) n) 0 0))
/-- Its neighbours' barrier cells are open. -/
def barRch : sProp 𝕄 :=
  iprop(reached ER (barCell (yL c)) 0 ∗ reached ER (barCell (yR c)) 0 ∗ reached ER (barCell (zL c)) 0 ∗ reached ER (barCell (zR c)) 0)
instance barRch_persistent : BI.Persistent (barRch (F := F) c) := by unfold barRch; infer_instance
/-- The barrier's tokens, one for each neighbour. -/
theorem barTok_eq : barTok (F := F) c
    = iprop(dutyTok ER (barCell (yL c)) 0 0 ∗ dutyTok ER (barCell (yR c)) 0 1 ∗ dutyTok ER (barCell (zL c)) 0 2 ∗ dutyTok ER (barCell (zR c)) 0 3) := rfl
/-- Each neighbour's barrier cell is at its first round. -/
theorem barRch_eq : barRch (F := F) c
    = iprop(reached ER (barCell (yL c)) 0 ∗ reached ER (barCell (yR c)) 0 ∗ reached ER (barCell (zL c)) 0 ∗ reached ER (barCell (zR c)) 0) := rfl
/-- The credit it waits with. -/
def Crd : sProp 𝕄 :=
  iprop(cred (tallyAt (barCell c) () 4) ∗ bigSep (Finset.range 12) (fun n => cred (tallyAt (dCell 1 c n) () N))
    ∗ bigSep (Finset.range 12) (fun n => cred (tallyAt (dCell 3 c n) () N)))
/-- From the launch: the invariants, its place at its barrier cell, the rights to open its DMA cells, the tokens. -/
def Ghost : sProp 𝕄 :=
  iprop(invs X Y K ∗ barRch (F := F) c ∗ atPos ER (barCell c) 0 ∅ 0 ∗ bigSep Finset.univ (fun k : Fin 48 => openTok ER (tCell (c, k)))
    ∗ barTok (F := F) c ∗ dmaTok (F := F) c)
/-- What a device brings to the call: its ghost state and its credit. -/
def Tk : sProp 𝕄 := iprop((∃ K, Ghost X Y K c) ∗ Crd (F := F) c)
/-- With the DMA cells opened. -/
def Opn : sProp 𝕄 :=
  iprop(invs X Y K ∗ levAts L lv ∗ barTok (F := F) c ∗ barRch (F := F) c
    ∗ bigSep (Finset.range 12) (fun n => reached ER (dCell 1 c n) 0) ∗ bigSep (Finset.range 12) (fun n => reached ER (dCell 3 c n) 0)
    ∗ atPos ER (barCell c) 0 ∅ 0 ∗ cred (tallyAt (barCell c) () 4)
    ∗ bigSep (Finset.range 12) (pendY (F := F) c) ∗ bigSep (Finset.range 12) (waitY (F := F) c)
    ∗ bigSep (Finset.range 12) (pendZ (F := F) c) ∗ bigSep (Finset.range 12) (waitZ (F := F) c))
/-- What a device brings to the body: the same with the DMA cells opened. -/
def Xk : sProp 𝕄 := iprop(∃ K, Opn X Y K c)

/-- The invariants hold the one of `c`'s DMA cell at place `k`. -/
theorem inv_t (k : Fin 48) : invs X Y K ⊢ cellInv ER (sched X Y) (K (tCell (c, k))) (tCell (c, k)) :=
  bigSep_elim (Finset.mem_union_right _ (Finset.mem_map_of_mem tEmb (Finset.mem_univ (c, k))))

/-- The right to open a DMA cell and its semaphore at zero open the cell. -/
theorem open_one (k : Fin 48) : iprop(invs X Y K ∗ (openTok ER (tCell (c, k)) ∗ semVal (tCell (c, k)) 0))
    ⊢ iprop(|={Set.univ}=> (atPos ER (tCell (c, k)) 0 ∅ 0 ∗ reached ER (tCell (c, k)) 0)) := by
  iintro ⟨#Hi, Ho, Hs⟩
  iapply (Rounds.cell_open ER (sched X Y) (g := tCell (c, k)) (Set.mem_univ (K (tCell (c, k)))))
  isplitr; · iapply (inv_t X Y K c k); iexact Hi
  isplitl [Ho] <;> iassumption

/-- All the DMA cells are opened. -/
theorem open_all : iprop(invs X Y K ∗ bigSep Finset.univ (fun k : Fin 48 => openTok ER (tCell (c, k))) ∗ bigSep Finset.univ (fun k : Fin 48 => semVal (tCell (c, k)) 0))
    ⊢ iprop(|={Set.univ}=> bigSep Finset.univ (fun k : Fin 48 => iprop(atPos ER (tCell (c, k)) 0 ∅ 0 ∗ reached ER (tCell (c, k)) 0))) := by
  iintro ⟨#Hi, Ho, Hs⟩
  iapply (bigSep_fupd Finset.univ (fun k : Fin 48 => iprop(atPos ER (tCell (c, k)) 0 ∅ 0 ∗ reached ER (tCell (c, k)) 0)))
  iapply (bigSep_with_persistent (R := invs X Y K) (Φ := fun k : Fin 48 => iprop(openTok ER (tCell (c, k)) ∗ semVal (tCell (c, k)) 0)) fun k _ => open_one X Y K c k)
  isplitr; · iexact Hi
  iapply zip
  isplitl [Ho] <;> iassumption

/-- The opening: what the launch dealt, with the DMA counters at zero, becomes what the body starts from. -/
theorem hopen : iprop(Tk X Y c ∗ Pipeline.ownSems0 osem c ∗ levAts L lv) ⊢ iprop(|={Set.univ}=> Xk X Y c) := by
  rw [ownSems_eq]
  unfold Tk Xk Ghost Crd
  iintro ⟨⟨⟨%K, #Hi, #Hr, Hat, Ho, Hbt, Hdt⟩, HcB, HcY, HcZ⟩, Hs, #Hl⟩
  imod (open_all X Y K c) $$ [Ho Hs] with H
  · isplitr; · iexact Hi
    isplitl [Ho] <;> iassumption
  imodintro
  ihave H := unzip $$ H
  icases H with ⟨HA, HR⟩
  ihave HA := (Entails.of_eq (fin48 (fun k : Fin 48 => (atPos ER (tCell (c, k)) 0 ∅ 0 : sProp 𝕄)))) $$ HA
  ihave HR := (Entails.of_eq (fin48 (fun k : Fin 48 => (reached ER (tCell (c, k)) 0 : sProp 𝕄)))) $$ HR
  icases HA with ⟨HA0, HA1, HA2, HA3⟩
  icases HR with ⟨HR0, HR1, HR2, HR3⟩
  unfold dmaTok
  icases Hdt with ⟨Hd0, Hd1, Hd2, Hd3⟩
  iexists K
  unfold Opn
  isplitr; · iexact Hi
  isplitr; · iexact Hl
  isplitl [Hbt]; · iexact Hbt
  isplitr; · iexact Hr
  isplitl [HR1]; · iexact HR1
  isplitl [HR3]; · iexact HR3
  isplitl [Hat]; · iexact Hat
  isplitl [HcB]; · iexact HcB
  isplitl [Hd0 Hd1 HR0 HA0]
  · unfold pendY
    iapply zip; isplitl [Hd0]; · iexact Hd0
    iapply zip; isplitl [Hd1]; · iexact Hd1
    iapply zip; isplitl [HR0]; · iexact HR0
    iexact HA0
  isplitl [HA1 HcY]
  · unfold waitY
    iapply zip; isplitl [HA1]; · iexact HA1
    iexact HcY
  isplitl [Hd2 Hd3 HR2 HA2]
  · unfold pendZ
    iapply zip; isplitl [Hd2]; · iexact Hd2
    iapply zip; isplitl [Hd3]; · iexact Hd3
    iapply zip; isplitl [HR2]; · iexact HR2
    iexact HA2
  unfold waitZ
  iapply zip; isplitl [HA3]; · iexact HA3
  iexact HcZ

/-! ## The body, from whole buffers to whole buffers -/

/-- A buffer of device `c` at any contents. -/
abbrev bufAny {s : Shape} {e : EltTy} (M : Memref sig .tc .vmem s e) : sProp 𝕄 := iprop(∃ f : Vec F s e, owns (c : Thread nD τ) M fullShare f)

/-- What the body starts from, out of the opened cells, the buffers, the operands and the debts. -/
theorem pre_of {W : Waits sig Unit} :
    iprop(Opn X Y K c ∗ bufAny (F := F) c aM ∗ bufAny (F := F) c cM ∗ bufAny (F := F) c gM ∗ owns (c : Thread nD τ) xM fullShare (X c)
      ∗ owns (c : Thread nD τ) yM fullShare (Y c) ∗ bufAny (F := F) c oM ∗ owes (c : Thread nD τ) (O₀ c) W) ⊢ Pre X Y K c W := by
  unfold Opn Pre
  iintro ⟨⟨#Hi, #Hl, Hbt, #Hr, HR1, HR3, Hat, HcB, HpY, HwY, HpZ, HwZ⟩, ⟨%fa, Ha⟩, ⟨%fc, Hc⟩, ⟨%fg, Hg⟩, Hx, Hy, ⟨%fo, Ho⟩, HO⟩
  ihave Hc := (split_c c fc) $$ Hc
  ihave Hg := (split_g c fg) $$ Hg
  icases Hc with ⟨Hc0, Hc⟩
  icases Hg with ⟨Hg0, Hg⟩
  isplitr; · iexact Hi
  isplitr; · iexact Hl
  isplitl [Hbt]; · iapply (Entails.of_eq (barTok_eq (F := F) c)) $$ Hbt
  isplitr; · iapply (Entails.of_eq (barRch_eq (F := F) c)); iexact Hr
  isplitl [Hc HR1]
  · unfold landY
    iapply zip; isplitl [Hc]; · iexact Hc
    iexact HR1
  isplitl [Hg HR3]
  · unfold landZ
    iapply zip; isplitl [Hg]; · iexact Hg
    iexact HR3
  isplitl [Hat]; · iexact Hat
  isplitl [HcB]; · iexact HcB
  isplitl [HpY]; · iexact HpY
  isplitl [HwY]; · iexact HwY
  isplitl [HpZ]; · iexact HpZ
  isplitl [HwZ]; · iexact HwZ
  isplitl [HO]; · iexact HO
  isplitl [Hx]; · iexact Hx
  isplitl [Hy]; · iexact Hy
  isplitl [Ha]; · iapply (acc_zero X Y c fa); iexact Ha
  isplitl [Ho]; · iapply (out_zero X Y c fo); iexact Ho
  isplitl [Hc0]; · iexact Hc0
  iexact Hg0

/-- What the body ends with: its semaphores at zero, its buffers, the operands unchanged, the result written, no debts. -/
theorem post_to :
    Post X Y K c 12 ⊢ iprop(semVal (barCell c) 0 ∗ Pipeline.ownSems0 osem c ∗ bufAny (F := F) c aM ∗ bufAny (F := F) c cM ∗ bufAny (F := F) c gM
      ∗ owns (c : Thread nD τ) xM fullShare (X c) ∗ owns (c : Thread nD τ) yM fullShare (Y c) ∗ owns (c : Thread nD τ) oM fullShare (res X Y c)
      ∗ ∃ W, owes (c : Thread nD τ) 0 W) := by
  rw [ownSems_eq, fin48 (fun k : Fin 48 => (semVal (tCell (c, k)) 0 : sProp 𝕄))]
  unfold Post
  rw [Fn_eq, prog_all, prog_all, prog_all, prog_all]
  unfold backY backZ
  iintro ⟨⟨-, HbY, HgY, HbZ, HgZ, HO⟩, Hbar, Hx, Hy, Ha, Ho, Hr, Hlz⟩
  ihave HbY := unzip $$ HbY
  ihave HbZ := unzip $$ HbZ
  icases HbY with ⟨Hs0, Hc⟩
  icases HbZ with ⟨Hs2, Hg⟩
  isplitl [Hbar]; · iexact Hbar
  isplitl [Hs0 HgY Hs2 HgZ]
  · isplitl [Hs0]; · iexact Hs0
    isplitl [HgY]; · iexact HgY
    isplitl [Hs2]; · iexact Hs2
    iexact HgZ
  isplitl [Ha]; · iapply (acc_any X Y c 4); iexact Ha
  isplitl [Hc Hr]
  · iapply (join_c X Y c)
    isplitl [Hc]; · iexact Hc
    iexact Hr
  isplitl [Hg Hlz]
  · iapply (join_g X Y c)
    isplitl [Hg]; · iexact Hg
    iexact Hlz
  isplitl [Hx]; · iexact Hx
  isplitl [Hy]; · iexact Hy
  isplitl [Ho]; · iapply (out_all X Y c); iexact Ho
  iexact HO

end Cert.Ring
-- ==== Proof.Region.lean ====
/-
  The region: the pipeline's one point around the body, from the operands' arrays to the result's, as the record that
  the run of the whole program takes.
-/
module

public import proofs.«01_k».proof.Proof.Opened
public import Idealize.ShloMosaic.Lib.Pipeline.RegionTalk
public import Idealize.ShloMosaic.Lib.Pipeline.ValueKit

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD)

/-! ## Contents -/

/-- Device `c`'s blocks of the two operands as the body finds them. -/
def Xof (c : Dev nD) : Vec F S1024x1024 .bf16 := ((cfg0.win 0).blk t0_0).view.read (Elt F) (V1 m c main_arg0)
/-- What device `c`'s kernel reads as its second operand. -/
def Yof (c : Dev nD) : Vec F S1024x1024 .bf16 := ((cfg0.win 1).blk t0_0).view.read (Elt F) (V1 m c main_v9)
/-- The result's array at the end. -/
def outBuf (c : Dev nD) : Buf (Elt F) ((c : Thread nD τ).loc main_v10) := res (Xof m) (Yof m) c
/-- The unscoped buffers at the end. -/
def VE (c : Dev nD) : Valuation τ sig (Elt F) := Function.update (V1 m c) main_v10 (outBuf m c)

/-- After the call the result's array holds what the kernel has written. -/
theorem VE_out : VE m c main_v10 = outBuf m c := Function.update_self _ _ _
/-- The call changes no other array. -/
theorem VE_of (b : DevRef τ sig) (h : b ≠ Proc.devRef .tc main_v10) : VE m c b = V1 m c b := Function.update_of_ne h _ _

/-! ## The proof data -/

/-- The scratch buffers no window stages. -/
def scratch : sProp 𝕄 :=
  iprop(bufAny (F := F) c aM ∗ bufAny (F := F) c cM ∗ bufAny (F := F) c gM)
/-- What the call allocates beside the operands' buffers is the three scratch buffers. -/
theorem scratch_eq : (Pipeline.scopedRest (Ix := Unit) (Name := ℕ) (U := UU) (Lvl := ℕ) (Val := Elt F) spec0 c : sProp 𝕄) = scratch (F := F) c := by
  rw [scopedRest0_eq]
  unfold scratch bufAny
  simp only [owns_whole]
  rfl

/-- What the body's invariant holds before the one point, and after. -/
def Φ₀ : sProp 𝕄 := iprop(Xk (Xof m) (Yof m) c ∗ scratch (F := F) c ∗ ∃ r, prngReg c r)
/-- What the body's invariant holds after the one point. -/
def Φ₁ : sProp 𝕄 := iprop(semVal (barCell c) 0 ∗ Pipeline.ownSems0 osem c ∗ scratch (F := F) c ∗ ∃ r, prngReg c r)

/-- What the pipeline's proof needs of the call: the arrays' contents, the invariant, the debts. -/
def dats (_ : Fin 1) (c : Dev nD) : Dat τ (Elt F) Unit ℕ UU ℕ cfg0 c where
  A w := match w with
    | 0 => V1 m c main_arg0
    | 1 => V1 m c main_v9
    | 2 => V1 m c main_v10
  after w _ := match w with
    | 0 => Xof m c
    | 1 => Yof m c
    | 2 => res (Xof m) (Yof m) c
  Φ t := if t.val = 0 then Φ₀ m c else Φ₁ (F := F) c
  q _ := fullShare
  owed t := if t.val = 0 then O₀ c else 0

/-- Before the one point a device owes all its signals and transfers. -/
theorem owed_first : (dats m 0 c).owed 0 = O₀ c := by
  show (if (0 : Fin (cfg0.N + 1)).val = 0 then O₀ c else 0) = O₀ c; exact if_pos rfl
/-- The last point is not the first. -/
theorem last_ne : (Fin.last cfg0.N).val ≠ 0 := by rw [Fin.val_last, show cfg0.N = 1 from N_0]; decide
/-- After the one point a device owes nothing. -/
theorem owed_last : (dats m 0 c).owed (Fin.last _) = 0 := by
  show (if (Fin.last cfg0.N).val = 0 then O₀ c else 0) = 0; exact if_neg last_ne

/-- Debts `O` are the debts at point `t`, if those are `O`. -/
theorem owesAt_in (t : Fin (cfg0.N + 1)) (O : CellTallies nD τ sig Unit) (h : (dats m 0 c).owed t = O) :
    iprop(∃ W, owes (c : Thread nD τ) O W) ⊢ ((dats m 0 c).owesAt () t : sProp 𝕄) := by
  unfold Dat.owesAt Pipeline.owesWithin Dat.bound; rw [h]
  iintro ⟨%W, HO⟩
  iexists W
  isplitr; · ipureintro; exact fun _ _ => Or.inl trivial
  iexact HO
/-- The debts at point `t` are `O`, if so stated. -/
theorem owesAt_out (t : Fin (cfg0.N + 1)) (O : CellTallies nD τ sig Unit) (h : (dats m 0 c).owed t = O) :
    ((dats m 0 c).owesAt () t : sProp 𝕄) ⊢ iprop(∃ W, owes (c : Thread nD τ) O W) := by
  unfold Dat.owesAt Pipeline.owesWithin; rw [h]
  iintro ⟨%W, -, HO⟩
  iexists W; iexact HO

/-! ## The body's obligation -/

/-- The first buffer starts with the first operand. -/
theorem before_0 (d) : (dats m 0 c).before 0 t0_0 d = Xof m c := by unfold Dat.before; rw [if_pos (fetch0_0 t0_0)]; rfl
/-- The second buffer starts with the second operand. -/
theorem before_1 (d) : (dats m 0 c).before 1 t0_0 d = Yof m c := by unfold Dat.before; rw [if_pos (fetch0_1 t0_0)]; rfl

/-- What the body starts from. -/
def oblPre : sProp 𝕄 :=
  iprop(Φ₀ m c ∗ (dats m 0 c).owesAt () t0_0.castSucc
    ∗ (∃ d, owns (c : Thread nD τ) xM fullShare ((dats m 0 c).before 0 t0_0 d)) ∗ (∃ d, owns (c : Thread nD τ) yM fullShare ((dats m 0 c).before 1 t0_0 d))
    ∗ ∃ d, owns (c : Thread nD τ) oM fullShare ((dats m 0 c).before 2 t0_0 d))
/-- What the body ends with. -/
def oblPost : sProp 𝕄 :=
  iprop(Φ₁ (F := F) c ∗ (dats m 0 c).owesAt () t0_0.succ ∗ owns (c : Thread nD τ) xM fullShare (Xof m c) ∗ owns (c : Thread nD τ) yM fullShare (Yof m c)
    ∗ owns (c : Thread nD τ) oM fullShare (res (Xof m) (Yof m) c))

/-- The body, run from `oblPre`, ends with `oblPost`. -/
theorem obl (i : grid0.Coords) : oblPre m c ⊢ wpc c (cc0_body (F := F) i xM (Memref.isWhole_whole _) yM (Memref.isWhole_whole _) oM (Memref.isWhole_whole _)
    aM (Memref.isWhole_whole _) cM (Memref.isWhole_whole _) gM (Memref.isWhole_whole _) cc0_scratch3 cc0_scratch4 cc0_scratch5 cc0_scratch6) (fun _ => oblPost m c) := by
  unfold oblPre Φ₀ Xk scratch
  simp only [before_0, before_1]
  iintro ⟨⟨⟨%K, HK⟩, ⟨Ha, Hc, Hg⟩, Hp⟩, HO, ⟨%_, Hx⟩, ⟨%_, Hy⟩, ⟨%fo, Ho⟩⟩
  ihave HO := (owesAt_out m c t0_0.castSucc (O₀ c) (owed_first m c)) $$ HO
  icases HO with ⟨%W, HO⟩
  ihave HP := (pre_of (Xof m) (Yof m) K c (W := W)) $$ [HK Ha Hc Hg Hx Hy Ho HO]
  · isplitl [HK]; · iexact HK
    isplitl [Ha]; · iexact Ha
    isplitl [Hc]; · iexact Hc
    isplitl [Hg]; · iexact Hg
    isplitl [Hx]; · iexact Hx
    isplitl [Hy]; · iexact Hy
    isplitl [Ho]; · iexists _; iexact Ho
    iexact HO
  iapply (body_run (Xof m) (Yof m) K c i) $$ HP
  iintro HQ
  ihave HQ := (post_to (Xof m) (Yof m) K c) $$ HQ
  icases HQ with ⟨Hb, Hs, Ha, Hc, Hg, Hx, Hy, Ho, HO⟩
  unfold oblPost Φ₁ scratch
  isplitl [Hb Hs Ha Hc Hg Hp]
  · isplitl [Hb]; · iexact Hb
    isplitl [Hs]; · iexact Hs
    isplitr [Hp]
    · isplitl [Ha]; · iexact Ha
      isplitl [Hc]; · iexact Hc
      iexact Hg
    iexact Hp
  isplitl [HO]; · iapply (owesAt_in m c t0_0.succ 0 (owed_last m c)) $$ HO
  isplitl [Hx]; · iexact Hx
  isplitl [Hy]; · iexact Hy
  iexact Ho

/-- The body meets the pipeline's demand at the one point. -/
theorem body_obligation : BodyObligation (dats (F := F) m 0 c) (defs₀ (F := F)) 𝒱₀ () Set.univ := fun t => by
  rw [fin_N0 t]
  rw [bigSep_W0, bigSep_W0]
  exact obl m c (grid0.coords t0_0)

/-! ## The record -/

/-- Every operand is held whole. -/
theorem share_eq (w : Fin cfg0.W) : (dats m 0 c).share w = fullShare := by unfold Dat.share; split <;> rfl

/-- The facts of the launch. -/
theorem kit : Pipeline.PLaunchFacts (nD := nD) (τ := τ) (pcfgs (F := F)) 0 := launch0.toP

/-- The DMA semaphores are the kernel's own. -/
theorem ownSemFacts : Pipeline.OwnSemFacts cfg0.spec osem := by decide

/-- What device `c` owes stays above the pipeline's own cells. -/
theorem O₀_lv (g : GSem nD τ sig) (u : Unit) (h : 0 < O₀ c g u) : u ∈ L g ∧ 0 < lv g u := by
  cases u
  unfold O₀ at h
  have bar (d : Dev nD) (h : 0 < tallyAt (barCell d) () 1 g ()) : () ∈ L g ∧ 0 < lv g () := by
    rw [tallyAt_apply] at h
    split at h
    · next e => rw [e.1]; exact ⟨mem_L _ _, by rw [lv_bar]; decide⟩
    · exact absurd h (Nat.lt_irrefl 0)
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · rcases Nat.add_pos_iff_pos_or_pos.mp h with h | h
        · exact ⟨(due_lv c 0 0 g () h).1, by rcases (due_lv c 0 0 g () h).2 with h' | h' <;> exact lt_of_lt_of_le (by decide) h'⟩
        · exact bar _ h
      · exact bar _ h
    · exact bar _ h
  · exact bar _ h

/-- Whatever a device owes has a level above zero. -/
theorem owed_lv (t : Fin (cfg0.N + 1)) (g : GSem nD τ sig) (u : Unit) (h : 0 < (dats m 0 c).owed t g u) : u ∈ L g ∧ 0 < lv g u := by
  have e : (dats m 0 c).owed t = if t.val = 0 then O₀ c else 0 := rfl
  rw [e] at h
  split at h
  · exact O₀_lv c g u h
  · exact absurd h (Nat.lt_irrefl 0)

/-- The pipeline's own semaphores are at level zero. -/
theorem stage_lv : ∀ (w : Fin cfg0.W) (s : Fin (cfg0.win w).nbuf), dLv ((cfg0.win w).sem s).val ≤ 0 := by decide

/-- At the end each operand's array holds what it should after the call. -/
theorem arr_end (w : Fin cfg0.W) : (dats m 0 c).arrAt w cfg0.N = VE m c (Proc.devRef .tc (Pipeline.arrRef spec0 w)) := by
  match w with
  | 0 => exact ((dats m 0 c).arrAt_in 0 rfl _).trans (VE_of m c (Proc.devRef .tc main_arg0) (by decide)).symm
  | 1 => exact ((dats m 0 c).arrAt_in 1 rfl _).trans (VE_of m c (Proc.devRef .tc main_v9) (by decide)).symm
  | 2 =>
    refine (Dat.arrAt_eq_of_after_last (dats m 0 c) 2 t0_0 (by decide +kernel) (outBuf m c) fun j => ?_).trans (VE_out m c).symm
    show res (Xof m) (Yof m) c _ = res (Xof m) (Yof m) c _
    congr 1

/-- The held buffers no window's array is. -/
def restRefs : Finset (DevRef τ sig) := Pipeline.ucRefs τ sig \ Pipeline.arrRefs (τ := τ) spec0

/-- The result's array is one of the call's. -/
theorem out_mem : Proc.devRef .tc main_v10 ∈ Pipeline.arrRefs (τ := τ) spec0 := by
  unfold Pipeline.arrRefs
  exact Finset.mem_map.mpr ⟨main_v10, Finset.mem_image.mpr ⟨2, Finset.mem_univ _, rfl⟩, rfl⟩

/-- Arrays that the call does not use keep their contents. -/
theorem VE_rest (b : DevRef τ sig) (h : b ∈ restRefs) : VE m c b = V1 m c b :=
  VE_of m c b fun e => (Finset.mem_sdiff.mp h).2 (e ▸ out_mem)

/-- What the call hands to the body makes the invariant's start. -/
theorem hin : iprop(Pipeline.scopedRest (Pipeline.pin (pcfgs (F := F)) adm 0).spec c ∗ (∃ r, prngReg c r)
      ∗ StableHlo.held (c.tc : Thread nD τ) (∅ : Finset (DevRef τ sig)) (V1 m c) ∗ Xk (Xof m) (Yof m) c) ⊢ (dats m 0 c).Φ 0 := by
  rw [show (dats m 0 c).Φ 0 = Φ₀ m c from rfl]
  unfold Φ₀
  iintro ⟨Hs, Hp, -, HX⟩
  isplitl [HX]; · iexact HX
  isplitl [Hs]; · iapply (Entails.of_eq (scratch_eq (F := F) c)) $$ Hs
  iexact Hp

/-- To hold no arrays is to hold nothing. -/
theorem held_empty (V : Valuation τ sig (Elt F)) : (StableHlo.held (c.tc : Thread nD τ) (∅ : Finset (DevRef τ sig)) V : sProp 𝕄) = BI.emp := by
  unfold StableHlo.held; exact BI.bigSep_empty

/-- The invariant's end gives back what the call takes. -/
theorem hout : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) (∅ : Finset (DevRef τ sig)) (VE m c) ∗ Pipeline.ownSems0 osem c ∗ semVal (barCell c) 0) := by
  rw [show (dats m 0 c).Φ (Fin.last (Pipeline.pin (pcfgs (F := F)) adm 0).N) = Φ₁ (F := F) c from by
    show (if (Fin.last cfg0.N).val = 0 then Φ₀ m c else Φ₁ (F := F) c) = _; exact if_neg last_ne, held_empty]
  unfold Φ₁
  iintro ⟨Hb, Hos, Hs, Hp⟩
  isplitl [Hs]; · iapply (Entails.of_eq (scratch_eq (F := F) c).symm) $$ Hs
  isplitl [Hp]; · iexact Hp
  isplitr; · iempintro
  isplitl [Hos] <;> iassumption

set_option backward.isDefEq.respectTransparency.types false in
/-- The call as a segment of the program. -/
def reg : Pipeline.RegionSeg (pcfgs (F := F)) adm (dats m) () defs₀ 𝒱₀ L lv 0 :=
  Pipeline.RegionSeg.ofTalk (pcfgs (F := F)) adm (dats m) () defs₀ 𝒱₀ L lv 0 osem ownSemFacts
    ∅ restRefs (Finset.empty_subset _) kit rfl (fun c => (body_obligation m c).loose)
    (fun _ => 0) O₀ (fun c => (owed_first m c).trans (zero_add _).symm) (owed_last m) (fun _ => rfl) (fun c w => share_eq m c w)
    (V1 m) (VE m) (fun c b hb => VE_rest m c b (Finset.mem_sdiff.mp hb).1)
    (Tk (Xof m) (Yof m)) (fun c => semVal (barCell c) 0) (Xk (Xof m) (Yof m)) (fun c => semVal (barCell c) 0)
    (hopen (Xof m) (Yof m)) (hin m) (hout m)
    (fun c => by iintro H; imodintro; iexact H)
    (fun _ => 0)
    ⟨fun c w s => mem_L c _, fun c w s => stage_lv w s, fun c t g i h => owed_lv m c t g i h⟩
    (fun _ => iprop(emp))
    (fun c w => by match w with | 0 => rfl | 1 => rfl | 2 => rfl) (fun c w => arr_end m c w)

/-- The record is entered from the buffers before the kernel and what the launch dealt. -/
theorem reg_pre : iprop(StableHlo.held (c : Thread nD τ) (Pipeline.ucRefs τ sig) (V1 m c)
      ∗ (Tk (Xof m) (Yof m) c ∗ (∃ r, prngReg c r) ∗ ∃ W, owes (c : Thread nD τ) (O₀ c) W)) ⊢ (reg m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) restRefs (V1 m c) ∗ emp) ∗ Tk (Xof m) (Yof m) c ∗ ∃ Wd, owes (c : Thread nD τ) (0 + O₀ c) Wd)
  rw [zero_add, StableHlo.held_sub_split (c.tc : Thread nD τ) (Pipeline.arrRefs_sub_ucRefs (τ := τ) spec0 (by decide)) (V1 m c)]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- It leaves the buffers with the result, and the barrier's counter at zero. -/
theorem reg_post : (reg m).post c ⊢ iprop(StableHlo.held (c : Thread nD τ) (Pipeline.ucRefs τ sig) (VE m c)
      ∗ (semVal (barCell c) 0 ∗ ∃ W, owes (c : Thread nD τ) (0 : CellTallies nD τ sig Unit) W)) := by
  show iprop(StableHlo.held (c.tc : Thread nD τ) (Pipeline.arrRefs (τ := τ) (pcfgs (F := F) 0).spec) (VE m c) ∗ (∃ r, prngReg c r)
    ∗ (StableHlo.held (c.tc : Thread nD τ) restRefs (VE m c) ∗ emp) ∗ semVal (barCell c) 0 ∗ ∃ Wd, owes (c : Thread nD τ) (0 : CellTallies nD τ sig Unit) Wd) ⊢ _
  rw [StableHlo.held_sub_split (c.tc : Thread nD τ) (Pipeline.arrRefs_sub_ucRefs (τ := τ) spec0 (by decide)) (VE m c)]
  iintro ⟨Ha, -, ⟨Hr, -⟩, Hb, HO⟩
  isplitl [Ha Hr]
  · isplitl [Ha]; · iexact Ha
    iexact Hr
  isplitl [Hb] <;> iassumption

end Cert.Ring
-- ==== Proof.Deal.lean ====
/-
  The launch: the credit each device gets from what all of them owe, the cells' ghost state allotted to the devices, and
  the run of the whole program.
-/
module

public import proofs.«01_k».proof.Proof.Region

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## Credit -/

section Credit

omit [FloatOps F] in
/-- Different DMA cells differ. -/
theorem dCell_ne {j j' : ℕ} (hj : j < 4) (hj' : j' < 4) {n n' : ℕ} (hn : n < 12) (hn' : n' < 12) {c d : Dev nD} (h : ¬(j = j' ∧ n = n' ∧ c = d)) :
    dCell j c n ≠ dCell j' d n' := fun e => h (by
  obtain ⟨h1, h2⟩ := dS_inj hj hj' hn hn' (by have := congrArg Prod.snd e; exact SemLoc.dma.inj this)
  exact ⟨h1, h2, congrArg (fun g : GSem nD τ sig => g.1.1) e⟩)

omit [FloatOps F] in
/-- What transfers `0 … 11` into array `j` of device `d` owe at one of its cells. -/
theorem sum_dma (j j' : ℕ) (hj : j < 4) (hj' : j' < 4) (d c : Dev nD) (n : ℕ) (hn : n < 12) :
    (∑ k ∈ Finset.Ico 0 12, (tallyAt (dCell j d k) () N : CellTallies nD τ sig Unit)) (dCell j' c n) () = if j = j' ∧ d = c then N else 0 := by
  rw [Finset.sum_apply, Finsupp.finset_sum_apply]
  by_cases h : j = j' ∧ d = c
  · obtain ⟨rfl, rfl⟩ := h
    rw [if_pos ⟨rfl, rfl⟩, Finset.sum_eq_single n]
    · rw [tallyAt_apply, if_pos ⟨rfl, rfl⟩]
    · intro k hk hkn
      rw [tallyAt_apply, if_neg fun e => ?_]
      exact hkn (dS_inj hj hj (Finset.mem_Ico.mp hk).2 hn (by have := congrArg Prod.snd e.1; exact (SemLoc.dma.inj this).symm)).2
    · intro hk; exact absurd (Finset.mem_Ico.mpr ⟨Nat.zero_le n, hn⟩) hk
  · rw [if_neg h]
    refine Finset.sum_eq_zero fun k hk => ?_
    rw [tallyAt_apply, if_neg fun e => ?_]
    exact dCell_ne hj hj' (Finset.mem_Ico.mp hk).2 hn (fun hh => h ⟨hh.1, hh.2.2⟩) e.1.symm

omit [FloatOps F] in
/-- A barrier cell is no DMA cell. -/
theorem bar_ne (c d : Dev nD) (j n : ℕ) : barCell c ≠ dCell j d n := fun e => by
  have := congrArg Prod.snd e; cases this

omit [FloatOps F] in
/-- One signal at `c`'s barrier cell counts one there and nothing at another's. -/
theorem tally_bar (c d : Dev nD) : (tallyAt (barCell c) () 1 : CellTallies nD τ sig Unit) (barCell d) () = if c = d then 1 else 0 := by
  rw [tallyAt_apply]
  by_cases h : c = d
  · subst h; rw [if_pos ⟨rfl, rfl⟩, if_pos rfl]
  · rw [if_neg fun e => h (congrArg (fun g : GSem nD τ sig => g.1.1) e.1).symm, if_neg h]

omit [FloatOps F] in
/-- What device `d` owes `c`'s barrier cell: one signal for each way in which `c` is `d`'s neighbour. -/
theorem owed_bar (d c : Dev nD) : O₀ d (barCell c) () = (if zR d = c then 1 else 0) + (if zL d = c then 1 else 0) + (if yR d = c then 1 else 0) + (if yL d = c then 1 else 0) := by
  have h0 : due d 0 0 (barCell c) () = 0 := by
    by_contra h
    rcases due_pos d 0 0 (barCell c) () (Nat.pos_of_ne_zero h) with ⟨n, -, -, e⟩ | ⟨n, -, -, e⟩ <;> exact bar_ne _ _ _ _ e
  unfold O₀
  simp only [Pi.add_apply, Finsupp.add_apply, h0, tally_bar, zero_add]

omit [FloatOps F] in
/-- What device `d` owes `c`'s DMA cells: a transfer's credit at the receive cells of its right neighbours. -/
theorem owed_dma (d c : Dev nD) (j : ℕ) (hj : j < 4) (n : ℕ) (hn : n < 12) :
    O₀ d (dCell j c n) () = (if 1 = j ∧ yR d = c then N else 0) + (if 3 = j ∧ zR d = c then N else 0) := by
  have hb (x : Dev nD) : (tallyAt (barCell x) () 1 : CellTallies nD τ sig Unit) (dCell j c n) () = 0 := by
    rw [tallyAt_apply, if_neg fun e => bar_ne _ _ _ _ e.1.symm]
  unfold O₀ due
  simp only [Pi.add_apply, Finsupp.add_apply, hb, add_zero]
  rw [sum_dma 1 j (by decide) hj _ _ n hn, sum_dma 3 j (by decide) hj _ _ n hn]

omit [FloatOps F] in
/-- One device is the neighbour that a permutation names. -/
theorem sum_ring (e : Dev nD ≃ Dev nD) (c : Dev nD) (k : ℕ) : (∑ d : Dev nD, if e d = c then k else 0) = k := by
  rw [Finset.sum_congr rfl fun d _ => if_congr (Equiv.apply_eq_iff_eq_symm_apply e (x := d) (y := c)) rfl rfl, Finset.sum_ite_eq' Finset.univ (e.symm c) fun _ => k,
    if_pos (Finset.mem_univ _)]

omit [FloatOps F] in
/-- The devices owe a barrier cell four signals together. -/
theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib]
  have h1 := sum_ring ringZ c 1
  have h2 := sum_ring ringZ.symm c 1
  have h3 := sum_ring ringY c 1
  have h4 := sum_ring ringY.symm c 1
  exact congrArg₂ (· + ·) (congrArg₂ (· + ·) (congrArg₂ (· + ·) h1 h2) h3) h4

omit [FloatOps F] in
/-- The devices owe a receive cell one transfer's credit together. -/
theorem launch_dma (c : Dev nD) (j : ℕ) (hj : j = 1 ∨ j = 3) (n : ℕ) (hn : n < 12) :
    tallyOn (dCell j c n) (launchCredit (Pipeline.owing O₀) 0 (dCell j c n)) = (tallyAt (dCell j c n) () N : CellTallies nD τ sig Unit) := by
  unfold tallyAt; refine congrArg _ (Finsupp.ext fun u => ?_); cases u
  rw [Pipeline.launchCredit_owing, Finsupp.single_eq_same, Finset.sum_congr rfl fun d _ => owed_dma d c j (by omega) n hn]
  rcases hj with rfl | rfl
  · have h := sum_ring ringY c N
    refine Eq.trans (Finset.sum_congr rfl fun d _ => ?_) h
    rw [if_neg (c := 3 = 1 ∧ _) (fun h => absurd h.1 (by decide)), add_zero]
    exact if_congr (by simp only [true_and]; exact Iff.rfl) rfl rfl
  · have h := sum_ring ringZ c N
    refine Eq.trans (Finset.sum_congr rfl fun d _ => ?_) h
    rw [if_neg (c := 1 = 3 ∧ _) (fun h => absurd h.1 (by decide)), zero_add]
    exact if_congr (by simp only [true_and]; exact Iff.rfl) rfl rfl

/-- The DMA semaphores among all. -/
def dmaE : Fin 48 ↪ SemLoc sig := ⟨osem, fun a b h => by
  have := congrArg Fin.val (SemLoc.dma.inj h); exact Fin.ext (by simpa using this)⟩

/-- Two families that agree below twelve have the same conjunction. -/
theorem range_congr {Φ Ψ : ℕ → sProp 𝕄} (h : ∀ n, n < 12 → Φ n = Ψ n) : bigSep (Finset.range 12) Φ = bigSep (Finset.range 12) Ψ :=
  bigSep_congr fun n hn => h n (Finset.mem_range.mp hn)

/-- The launch's credit at one array of receive cells is a transfer's credit at each. -/
theorem cred_range (c : Dev nD) (j : ℕ) (hj : j = 1 ∨ j = 3) :
    bigSep (Finset.range 12) (fun n => (cred (tallyOn (dCell j c n) (launchCredit (Pipeline.owing O₀) 0 (dCell j c n))) : sProp 𝕄))
      ⊢ bigSep (Finset.range 12) (fun n => cred (tallyAt (dCell j c n) () N)) :=
  Entails.of_eq (range_congr (F := F) fun n hn => by rw [launch_dma c j hj n hn])

/-- A conjunction over the DMA semaphores, array by array. -/
theorem dmaE_all (Φ : SemLoc sig → sProp 𝕄) : bigSep (Finset.univ.map dmaE) Φ
    = iprop(bigSep (Finset.range 12) (fun n => Φ (.dma (dS 0 n))) ∗ bigSep (Finset.range 12) (fun n => Φ (.dma (dS 1 n)))
      ∗ bigSep (Finset.range 12) (fun n => Φ (.dma (dS 2 n))) ∗ bigSep (Finset.range 12) (fun n => Φ (.dma (dS 3 n)))) := by
  rw [bigSep_map, fin48]; rfl

/-- From the launch's credit at the DMA cells: a transfer's credit at every receive cell. -/
theorem cred_dma (c : Dev nD) : bigSep (Finset.univ.map dmaE) (fun s => (cred (tallyOn ((c : Thread nD τ), s) (launchCredit (Pipeline.owing O₀) 0 ((c : Thread nD τ), s))) : sProp 𝕄))
    ⊢ iprop(bigSep (Finset.range 12) (fun n => cred (tallyAt (dCell 1 c n) () N)) ∗ bigSep (Finset.range 12) (fun n => cred (tallyAt (dCell 3 c n) () N))) := by
  rw [dmaE_all]
  iintro ⟨-, H1, -, H3⟩
  isplitl [H1]; · iapply (cred_range (F := F) c 1 (.inl rfl)) $$ H1
  iapply (cred_range (F := F) c 3 (.inr rfl)) $$ H3

/-- What the launch credits device `c`. -/
theorem creds (c : Dev nD) : (Pipeline.launchCred O₀ c : sProp 𝕄) ⊢ Crd (F := F) c := by
  unfold Pipeline.launchCred Crd
  rw [bigSep_univ_at _ (SemLoc.reg barS), launch_bar]
  refine sep_mono_right ?_
  have sub : Finset.univ.map dmaE ⊆ (Finset.univ : Finset (SemLoc sig)).erase (.reg barS) := fun s hs => by
    obtain ⟨k, -, rfl⟩ := Finset.mem_map.mp hs
    exact Finset.mem_erase.mpr ⟨(fun h => by cases h), Finset.mem_univ _⟩
  exact (bigSep_subset sub).trans (cred_dma c)

end Credit

/-! ## Tokens -/

/-- Every duty's token: four at each barrier cell, one at each DMA cell. -/
def barToks : Finset (GSem nD τ sig × ℕ × Fin 4) := Finset.univ.map ⟨fun p : Dev nD × Fin 4 => (barCell p.1, 0, p.2), fun p q h => by
  exact Prod.ext (congrArg (fun t : GSem nD τ sig × ℕ × Fin 4 => t.1.1.1) h) (congrArg (fun t : GSem nD τ sig × ℕ × Fin 4 => t.2.2) h)⟩
/-- The token of the one duty at each DMA cell. -/
def dmaToks : Finset (GSem nD τ sig × ℕ × Fin 4) := Finset.univ.map ⟨fun p : Dev nD × Fin 48 => (tEmb p, 0, 0), fun p q h => by
  exact tEmb.injective (congrArg Prod.fst h)⟩
/-- All the tokens. -/
def toks : Finset (GSem nD τ sig × ℕ × Fin 4) := barToks ∪ dmaToks

/-- The barrier's tokens are not the DMA cells'. -/
theorem toks_disj : Disjoint barToks dmaToks := by
  rw [Finset.disjoint_left]
  intro t h1 h2
  obtain ⟨p, -, rfl⟩ := Finset.mem_map.mp h1
  obtain ⟨q, -, h⟩ := Finset.mem_map.mp h2
  have := congrArg (fun t : GSem nD τ sig × ℕ × Fin 4 => t.1.2) h
  cases this

/-- Barrier cells are not DMA cells. -/
theorem cells_disj : Disjoint barCells tCells := by
  rw [Finset.disjoint_left]
  intro t h1 h2
  obtain ⟨p, -, rfl⟩ := Finset.mem_map.mp h1
  obtain ⟨q, -, h⟩ := Finset.mem_map.mp h2
  have := congrArg Prod.snd h
  cases this

/-- A conjunction over four, written out. -/
theorem fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- A family over the devices, each device taking its neighbour's. -/
theorem shift (e : Dev nD ≃ Dev nD) (Φ : Dev nD → sProp 𝕄) : bigSep Finset.univ Φ ⊢ bigSep Finset.univ (fun c => Φ (e c)) :=
  Entails.of_eq (bigSep_univ_equiv e Φ)

/-- The barrier tokens, each with the device that pays the duty. -/
theorem bar_deal : bigSep barToks (fun x => (dutyTok ER x.1 x.2.1 x.2.2 : sProp 𝕄)) ⊢ bigSep Finset.univ fun c : Dev nD => barTok (F := F) c := by
  have e : bigSep barToks (fun x => (dutyTok ER x.1 x.2.1 x.2.2 : sProp 𝕄))
      = bigSep Finset.univ fun c : Dev nD => iprop(dutyTok ER (barCell c) 0 0 ∗ dutyTok ER (barCell c) 0 1 ∗ dutyTok ER (barCell c) 0 2 ∗ dutyTok ER (barCell c) 0 3) := by
    unfold barToks; rw [bigSep_map, bigSep_univ_prod]
    exact bigSep_congr fun c _ => fin4 (F := F) fun d => dutyTok ER (barCell c) 0 d
  rw [e]
  iintro H
  ihave H := unzip $$ H; icases H with ⟨H0, H⟩
  ihave H := unzip $$ H; icases H with ⟨H1, H⟩
  ihave H := unzip $$ H; icases H with ⟨H2, H3⟩
  ihave H0 := (shift ringY.symm fun c => (dutyTok ER (barCell c) 0 0 : sProp 𝕄)) $$ H0
  ihave H1 := (shift ringY fun c => (dutyTok ER (barCell c) 0 1 : sProp 𝕄)) $$ H1
  ihave H2 := (shift ringZ.symm fun c => (dutyTok ER (barCell c) 0 2 : sProp 𝕄)) $$ H2
  ihave H3 := (shift ringZ fun c => (dutyTok ER (barCell c) 0 3 : sProp 𝕄)) $$ H3
  unfold barTok
  iapply zip; isplitl [H0]; · iexact H0
  iapply zip; isplitl [H1]; · iexact H1
  iapply zip; isplitl [H2]; · iexact H2
  iexact H3

/-- The DMA tokens, each with the device that starts the transfer. -/
theorem dma_deal : bigSep dmaToks (fun x => (dutyTok ER x.1 x.2.1 x.2.2 : sProp 𝕄)) ⊢ bigSep Finset.univ fun c : Dev nD => dmaTok (F := F) c := by
  have e : bigSep dmaToks (fun x => (dutyTok ER x.1 x.2.1 x.2.2 : sProp 𝕄))
      = bigSep Finset.univ fun c : Dev nD => iprop(bigSep (Finset.range 12) (fun n => dutyTok ER (dCell 0 c n) 0 0) ∗ bigSep (Finset.range 12) (fun n => dutyTok ER (dCell 1 c n) 0 0)
        ∗ bigSep (Finset.range 12) (fun n => dutyTok ER (dCell 2 c n) 0 0) ∗ bigSep (Finset.range 12) (fun n => dutyTok ER (dCell 3 c n) 0 0)) := by
    unfold dmaToks; rw [bigSep_map, bigSep_univ_prod]
    exact bigSep_congr fun c _ => fin48 (F := F) fun k => dutyTok ER (tCell (c, k)) 0 0
  rw [e]
  iintro H
  ihave H := unzip $$ H; icases H with ⟨H0, H⟩
  ihave H := unzip $$ H; icases H with ⟨H1, H⟩
  ihave H := unzip $$ H; icases H with ⟨H2, H3⟩
  ihave H1 := (shift ringY fun c => bigSep (Finset.range 12) (fun n => (dutyTok ER (dCell 1 c n) 0 0 : sProp 𝕄))) $$ H1
  ihave H3 := (shift ringZ fun c => bigSep (Finset.range 12) (fun n => (dutyTok ER (dCell 3 c n) 0 0 : sProp 𝕄))) $$ H3
  unfold dmaTok
  iapply zip; isplitl [H0]; · iexact H0
  iapply zip; isplitl [H1]; · iexact H1
  iapply zip; isplitl [H2]; · iexact H2
  iexact H3

/-! ## The launch -/

variable (m : (ℓ : Loc nD τ sig) → Buf (Elt F) ℓ) (ρ : Dev nD → PrngReg)

/-- The launch's element: the pipeline's cells, and the kernel's. -/
def u₀ : UU := (initOf (Pipeline.cells (Pipeline.pin (pcfgs (F := F)) adm) cellOf_inj) (Pipeline.launchToks (Pipeline.pin (pcfgs (F := F)) adm) cellOf_inj),
  launchOf barCells tCells toks)

/-- The kernel's part of it, kept with device 0 until every device's part is dealt. -/
def G (c : Dev nD) : sProp 𝕄 := if c = 0 then BI.own (ER (launchOf barCells tCells toks)) else iprop(emp)
/-- Dealt to all devices, the ghost state is the one the launch makes. -/
theorem G_all : bigSep Finset.univ (G (F := F)) = BI.own (ER (launchOf barCells tCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult. -/
def records (K : GSem nD τ sig → ℕ) : sProp 𝕄 := iprop(invs (Xof m) (Yof m) K ∗ bigSep barCells fun g => reached ER g 0)
instance records_persistent (K : GSem nD τ sig → ℕ) : BI.Persistent (records m K) := by unfold records; infer_instance

/-- Every barrier cell is at its first round: so is `c`'s. -/
theorem reached_at (c : Dev nD) : (bigSep barCells fun g => (reached ER g 0 : sProp 𝕄)) ⊢ reached ER (barCell c) 0 :=
  bigSep_elim (Finset.mem_map_of_mem barEmb (Finset.mem_univ c))

/-- What is one device's alone. -/
def own (c : Dev nD) : sProp 𝕄 :=
  iprop(atPos ER (barCell c) 0 ∅ 0 ∗ bigSep Finset.univ (fun k : Fin 48 => openTok ER (tCell (c, k))) ∗ barTok (F := F) c ∗ dmaTok (F := F) c)

/-- The shared records and a device's own part make the ghost state its kernel starts with. -/
theorem ghost_intro (K : GSem nD τ sig → ℕ) (c : Dev nD) : iprop(records m K ∗ own (F := F) c) ⊢ Ghost (Xof m) (Yof m) K c := by
  unfold records own Ghost barRch
  iintro ⟨⟨#HI, #HR⟩, Hat, Ho, Hb, Hd⟩
  isplitr; · iexact HI
  isplitr
  · isplitr; · iapply (reached_at (F := F) (yL c)); iexact HR
    isplitr; · iapply (reached_at (F := F) (yR c)); iexact HR
    isplitr; · iapply (reached_at (F := F) (zL c)); iexact HR
    iapply (reached_at (F := F) (zR c)); iexact HR
  isplitl [Hat]; · iexact Hat
  isplitl [Ho]; · iexact Ho
  isplitl [Hb] <;> iassumption

/-- What a device carries to the region, beside the buffers. -/
def ride (c : Dev nD) : sProp 𝕄 := iprop(Tk (Xof m) (Yof m) c ∗ (∃ r, prngReg c r) ∗ ∃ W, owes (c : Thread nD τ) (O₀ c) W)
/-- A device's buffers, credit, debt and register. -/
def bundle (c : Dev nD) : sProp 𝕄 :=
  iprop(StableHlo.held (c : Thread nD τ) (Pipeline.ucRefs τ sig) (V0 m c) ∗ Crd (F := F) c ∗ owes (c : Thread nD τ) (O₀ c) ∅ ∗ ∃ r, prngReg c r)
/-- What a device holds before the kernel's call. -/
abbrev T₀ (c : Dev nD) : sProp 𝕄 := iprop(StableHlo.held (c : Thread nD τ) (Pipeline.ucRefs τ sig) (V0 m c) ∗ ride m c)
/-- What a device holds after the kernel's call. -/
abbrev T₁ (c : Dev nD) : sProp 𝕄 := iprop(StableHlo.held (c : Thread nD τ) (Pipeline.ucRefs τ sig) (VE m c) ∗ semVal (barCell c) 0)

/-- The shared records and what a device is dealt make what it holds before the call. -/
theorem T₀_intro (K : GSem nD τ sig → ℕ) (c : Dev nD) : iprop(records m K ∗ (own (F := F) c ∗ bundle m c)) ⊢ T₀ m c := by
  unfold bundle T₀ ride Tk
  iintro ⟨#HR, Ho, Hh, Hc, HO, Hp⟩
  isplitl [Hh]; · iexact Hh
  isplitl [Ho Hc]
  · isplitl [Ho]
    · iexists K
      iapply (ghost_intro m K c)
      isplitr; · iexact HR
      iexact Ho
    iexact Hc
  isplitl [Hp]; · iexact Hp
  iexists ∅; iexact HO

/-- The one semaphore that outlives the call is the barrier's. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The launch deals every device its part. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have core (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(bundle m c ∗ (semVal (barCell c) 0 ∗ G (F := F) c)) : sProp 𝕄) := by
    rw [show unscopedBufs c (fun b => m ((c : Thread nD τ).loc b)) = StableHlo.held (c : Thread nD τ) (Pipeline.ucRefs τ sig) (V0 m c) from
      Pipeline.unscopedBufs_held c (V0 m c), unscopedSems_eq]
    unfold bundle
    iintro ⟨Hh, Hs, HO, Hcr, Hp, HG⟩
    ihave Hcr := (creds (F := F) c) $$ Hcr
    isplitr [Hs HG]
    · isplitl [Hh]; · iexact Hh
      isplitl [Hcr]; · iexact Hcr
      isplitl [HO]; · iexact HO
      iexists (ρ c); iexact Hp
    isplitl [Hs] <;> iassumption
  have bars (Φ : GSem nD τ sig → sProp 𝕄) : bigSep barCells Φ = bigSep Finset.univ (fun c : Dev nD => Φ (barCell c)) := by
    unfold barCells; rw [bigSep_map]; rfl
  have opens : bigSep tCells (fun g => (openTok ER g : sProp 𝕄)) = bigSep Finset.univ (fun c : Dev nD => bigSep Finset.univ fun k : Fin 48 => openTok ER (tCell (c, k))) := by
    unfold tCells; rw [bigSep_map, bigSep_univ_prod]; rfl
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barCell c) 0 ∗ G (F := F) c)) : sProp 𝕄) from bigSep_mono fun c _ => core c) $$ H
  ihave H := unzip $$ H; icases H with ⟨HB, H⟩
  ihave H := unzip $$ H; icases H with ⟨Hv, HG⟩
  ihave HG := (Entails.of_eq (G_all (F := F))) $$ HG
  ihave Hv := (Entails.of_eq (bars fun g => semVal g 0).symm) $$ Hv
  imod (Rounds.fund_launch ER (sched (Xof m) (Yof m)) cells_disj (fun g _ h => h) toks) $$ [Hv HG] with ⟨%K, -, #Hi, #Hr, Hat, Ho, Ht⟩
  · isplitl [Hv] <;> iassumption
  imodintro
  iapply (bigSep_with_persistent (R := records m K) (Φ := fun c => iprop(own (F := F) c ∗ bundle m c)) fun c _ => T₀_intro m K c)
  isplitr
  · unfold records invs
    isplitr; · iexact Hi
    iexact Hr
  iapply zip
  isplitr [HB]
  · ihave Ht := (show bigSep toks (fun x => (dutyTok ER x.1 x.2.1 x.2.2 : sProp 𝕄)) ⊢ iprop(_ ∗ _) from Entails.of_eq (bigSep_union toks_disj)) $$ Ht
    icases Ht with ⟨Hb, Hd⟩
    unfold own
    iapply zip; isplitl [Hat]; · iapply (Entails.of_eq (bars fun g => atPos ER g 0 ∅ 0)) $$ Hat
    iapply zip; isplitl [Ho]; · iapply (Entails.of_eq opens) $$ Ho
    iapply zip; isplitl [Hb]; · iapply (bar_deal (F := F)) $$ Hb
    iapply (dma_deal (F := F)) $$ Hd
  iexact HB

/-- Cells of other processors carry no level. -/
theorem L_of_ne (g : GSem nD τ sig) (h : g.1.2 ≠ .tc) : L g = ∅ := by unfold L; exact if_neg h
/-- A semaphore that outlives the call is the barrier's. -/
theorem unscoped_bar : ∀ sm : SemLoc sig, sm.isScoped .tc = false → sm = .reg barS := by decide

/-- What rides beside the buffers at each item of the program. -/
def beside (i : Fin 2) (c : Dev nD) : sProp 𝕄 := if i = 0 then ride m c else semVal (barCell c) 0

set_option backward.isDefEq.respectTransparency.types false in
/-- From any memory with counters at zero the program runs to the end on all devices; the operands are unchanged, device `c`'s result is
    `res`, and every counter is zero again. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v10) = outBuf m c) ∧ r.2.sem = fun _ => 0) := by
  refine Pipeline.θ_run_regions_kit_dev_sems (pcfgs (F := F)) adm (dats m) () cellOf_inj EP defs₀ 𝒱₀ L lv m ρ main
    (segs m 𝒱₀ L lv (beside m) () (dats m) (reg m))
    (fun c Q => by
      rewrite [main_chain c, Pipeline.Seg.run_eq_chain,
        show (segs m 𝒱₀ L lv (beside m) () (dats m) (reg m) c).map Pipeline.Seg.prog = [
          StableHlo.seq (hostOps0 c),
          Prog.lift (.customCall (Pipeline.entry 0) ()) ] from rfl]
      exact .rfl)
    (fun c => by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := T₁ m)
    (hch := fun c => ⟨.rfl, reg_pre m c, (reg_post m c).trans ?_⟩)
    (hinit := init m ρ)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v10) = outBuf m c) ∧ s.sem (barCell c) = 0)
    (hfin := fun c s' => ?_)
    (hQ := fun s h hs => ⟨fun c => (h c).1, sem_eq_zero hs fun c sm hsm => by
      obtain rfl := unscoped_bar sm hsm
      exact (h c).2⟩)
  · iintro ⟨Hh, Hb, HO⟩
    isplitr [HO]
    · isplitl [Hh] <;> iassumption
    iexact HO
  · unfold T₁ StableHlo.held
    iintro ⟨⟨Hh, Hb⟩, HSI⟩
    icombine HSI Hb gives %hb
    ihave Hr := (pointsTo_read_all (Pipeline.ucRefs τ sig) (fun b => ((c : Thread nD τ).1, b)) (VE m c) s') $$ [Hh HSI]
    · isplitl [Hh] <;> iassumption
    icases Hr with ⟨%h, HSI⟩
    imodintro
    isplitr
    · ipureintro
      have at' (r : Ref sig .tc) (hr : ¬ r.isScoped) := h (Proc.devRef .tc r) (Finset.mem_filter.mpr ⟨StableHlo.devRef_mem_tcRefs r, hr⟩)
      refine ⟨⟨?_, ?_, ?_⟩, by simpa using hb⟩
      · exact ((at' main_arg0 (by decide)).trans (VE_of m c _ (by decide))).trans ((V1_of m c main_arg0 (by decide)).trans rfl)
      · exact ((at' main_arg1 (by decide)).trans (VE_of m c _ (by decide))).trans ((V1_of m c main_arg1 (by decide)).trans rfl)
      · exact (at' main_v10 (by decide)).trans (VE_out m c)
    iexact HSI

end Cert.Ring
-- ==== Proof.Value.lean ====
/-
  The values over the extended reals: each device's result is its block of the whole product.

  A device's partial products are sums over its own 1024 rows; the ring along `y` adds the four devices' partial
  products of one block of rows of the result; the four ranges of 1024 rows are the 4096 rows of the whole arrays.
-/
module

public import proofs.«01_k».proof.Proof.Deal
public import proofs.«01_k».proof.Defs
public import proofs.«01_k».proof.Proof.Gen.ReferenceIdeal
public import Idealize.ShloMosaic.Lib.ValueIdx
public import Idealize.ShloMosaic.Lib.DynamicIndex
public import Idealize.ShloMosaic.Lib.Pipeline.Value
public import Idealize.ShloMosaic.Lib.Pipeline.ValueKit
public import Idealize.ShloMosaic.Lib.StableHlo.Run
public import Idealize.ShloMosaic.Lib.StableHlo.RunRead

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

open Idealize.ShloMosaic.ValueIdx (contrEquiv1)

/-! ## One device's products -/

/-- The product of two columns, `j` of `A` and `q` of `B`, over the 1024 rows of device row `y`. -/
def slab (A B : ℕ → ℕ → EReal) (y j q : ℕ) : EReal := ∑ k : Fin 1024, A (y * 1024 + k.val) j * B (y * 1024 + k.val) q

/-- The four devices' products together are the product over all 4096 rows, whatever device the ring ends at. -/
theorem slabs (A B : ℕ → ℕ → EReal) (j q : ℕ) :
    ∑ y : Fin 4, slab A B y.val j q = ∑ K : Fin 4096, A K.val j * B K.val q :=
  Fin.sum_univ_univ_mul_add 4 1024 fun K => A K j * B K q

/-- The order in which the ring adds them does not matter. -/
theorem ring_sum (f : ℕ → EReal) (y : ℕ) (hy : y < 4) :
    ((f ((y + 1) % 4) + f ((y + 2) % 4)) + f ((y + 3) % 4)) + f y = ∑ t : Fin 4, f t.val := by
  rw [Fin.sum_univ_four]
  show _ = f 0 + f 1 + f 2 + f 3
  match y, hy with
  | 0, _ => show f 1 + f 2 + f 3 + f 0 = _; ac_rfl
  | 1, _ => show f 2 + f 3 + f 0 + f 1 = _; ac_rfl
  | 2, _ => show f 3 + f 0 + f 1 + f 2 = _; ac_rfl
  | 3, _ => show f 0 + f 1 + f 2 + f 3 = _; rfl

/-- The dimension numbers of a device's products. -/
abbrev DK : DotDims S1024x1024 S1024x256 S1024x256 := dot_S1024x1024_S1024x256_S1024x256_0_0_1_1_n_n

/-- The contracted index of a device's product is a row. -/
def rowK : DK.contr.Idx ≃ Fin 1024 := contrEquiv1 DK 1024 rfl rfl

/-- The row and the column of the left factor. -/
theorem lhsK (j : S1024x256.Idx) (k : Fin 1024) : DK.lhsIdx j (rowK.symm k) = (ix2 k ⟨(j 0).val, (j 0).isLt⟩ : S1024x1024.Idx) := by
  funext a
  match a with
  | 0 => rfl
  | 1 => rfl
/-- The row and the column of the right factor. -/
theorem rhsK (j : S1024x256.Idx) (k : Fin 1024) : DK.rhsIdx j (rowK.symm k) = (ix2 k ⟨(j 1).val, (j 1).isLt⟩ : S1024x256.Idx) := by
  funext a
  match a with
  | 0 => rfl
  | 1 => rfl

/-- The payload of a product, at an index. -/
theorem pay2_at (x : Vec Ideal S1024x1024 .bf16) (y : Vec Ideal S1024x256 .bf16) (j : S1024x256.Idx) :
    k0_pay2 x y j = ∑ k : Fin 1024, (x (ix2 k ⟨(j 0).val, (j 0).isLt⟩) * y (ix2 k ⟨(j 1).val, (j 1).isLt⟩) : EReal) := by
  unfold k0_pay2 k0_pay1
  simp only [shapeCast_self, matmul]
  rw [Ideal.matmul_constant_zero_apply, ← Equiv.sum_comp rowK.symm]
  exact Finset.sum_congr rfl fun k _ => by rw [lhsK, rhsK]

/-! ## The slots' contents -/

section Slots

variable (X Y : Dev nD → Vec Ideal S1024x1024 .bf16) (A B : ℕ → ℕ → EReal)

/-- `X` and `Y` are the devices' blocks of `A` and `B`: the rows by the coordinate `y`, of `B` the columns by `z`. -/
structure Cut : Prop where
  x : ∀ d i, X d i = A (d.val / 4 % 4 * 1024 + (i 0).val) (i 1).val
  y : ∀ d i, Y d i = B (d.val / 4 % 4 * 1024 + (i 0).val) (1024 * (d.val % 4) + (i 1).val)

variable {X Y A B}

/-- A chunk of a device's product. -/
theorem chunk_at (H : Cut X Y A B) (c : Dev nD) (st j : ℕ) (i : S256x256.Idx) :
    chunk X Y c st j i = slab A B (c.val / 4 % 4) (256 * (j % 4) + (i 0).val) (1024 * (c.val % 4) + (256 * (st % 4) + (i 1).val)) := by
  unfold chunk part
  rw [pay2_at]
  refine Finset.sum_congr rfl fun k _ => ?_
  have e0 : ∀ b : Fin 1024, b.val = 256 * (j % 4) + (i 0).val →
      X c (ix2 k b) = A (c.val / 4 % 4 * 1024 + k.val) (256 * (j % 4) + (i 0).val) := fun b h => by rw [← h]; exact H.x c (ix2 k b)
  have e1 : ∀ u : S1024x1024.Idx, (u 0).val = k.val → (u 1).val = 256 * (st % 4) + (i 1).val →
      Y c u = B (c.val / 4 % 4 * 1024 + k.val) (1024 * (c.val % 4) + (256 * (st % 4) + (i 1).val)) := fun u h0 h1 => by
    rw [← h0, ← h1]; exact H.y c u
  refine congrArg₂ (· * ·) (e0 _ ?_) (e1 _ ?_ ?_)
  · show 256 * (j % 4) + 1 * (i 0).val = _; omega
  · show 0 + 1 * k.val = _; omega
  · show 256 * (st % 4) + 1 * (0 + 1 * (i 1).val) = _; omega

/-- Where an element of a chunk lies in a slot. -/
def inSlot (i : S256x256.Idx) : S1x1x256x256.Idx := fun a => match a with
  | 0 => ⟨0, Nat.one_pos⟩
  | 1 => ⟨0, Nat.one_pos⟩
  | 2 => ⟨(i 0).val, (i 0).isLt⟩
  | 3 => ⟨(i 1).val, (i 1).isLt⟩

/-- It is the same place in row-major order. -/
theorem inSlot_pos (i : S256x256.Idx) : (S1x1x256x256.rowMajor (inSlot i)).val = (S256x256.rowMajor i).val := by
  rw [Shape.rowMajor_val_four, Shape.rowMajor_val_two]
  show ((0 * 1 + 0) * 256 + (i 0).val) * 256 + (i 1).val = (i 0).val * 256 + (i 1).val
  omega

/-- The payload that starts a ring: the chunk itself. -/
theorem pay3_at (v : Vec Ideal S256x256 .f32) (i : S256x256.Idx) : k0_pay3 v (inSlot i) = v i := by
  unfold k0_pay3
  exact shapeCast_apply _ _ _ i (inSlot_pos i).symm
/-- The payload of a ring step: what came from the left neighbour plus the chunk. -/
theorem pay12_at (w : Vec Ideal S1x1x256x256 .bf16) (v : Vec Ideal S256x256 .f32) (i : S256x256.Idx) :
    k0_pay12 w v (inSlot i) = (w (inSlot i) + v i : EReal) := by
  unfold k0_pay12
  refine (shapeCast_apply _ _ _ i (inSlot_pos i).symm).trans ?_
  exact congrArg (fun u : EReal => u + v i) (shapeCast_apply w _ i (inSlot i) (inSlot_pos i))
/-- The payload that leaves the ring: the slot itself. -/
theorem pay25_at (w : Vec Ideal S1x1x256x256 .bf16) (i : S256x256.Idx) : k0_pay25 w i = w (inSlot i) := by
  unfold k0_pay25
  exact shapeCast_apply w _ i (inSlot i) (inSlot_pos i)

/-- The finished chunk is the sum over the ring of the products of one row block and one column block. -/
theorem run_at (H : Cut X Y A B) (st : ℕ) (c : Dev nD) (i : S256x256.Idx) :
    run X Y st 3 c (inSlot i) = ∑ K : Fin 4096, A K.val (256 * (c.val / 4 % 4) + (i 0).val)
      * B K.val (1024 * (c.val % 4) + (256 * (st % 4) + (i 1).val)) := by
  rw [← slabs, ← ring_sum (fun y => slab A B y (256 * (c.val / 4 % 4) + (i 0).val) (1024 * (c.val % 4) + (256 * (st % 4) + (i 1).val)))
    (c.val / 4 % 4) (by omega)]
  have hc := c.isLt
  have key : ∀ (d : Dev nD) (j y : ℕ), d.val / 4 % 4 = y → d.val % 4 = c.val % 4 → j % 4 = c.val / 4 % 4 → chunk X Y d st j i
      = slab A B y (256 * (c.val / 4 % 4) + (i 0).val) (1024 * (c.val % 4) + (256 * (st % 4) + (i 1).val)) :=
    fun d j y hy hz hj => by rw [chunk_at H, hy, hz, hj]
  show k0_pay12 (k0_pay12 (k0_pay12 (k0_pay3 _) _) _) _ (inSlot i) = _
  rw [pay12_at, pay12_at, pay12_at, pay3_at]
  refine congrArg₂ (· + ·) (congrArg₂ (· + ·) (congrArg₂ (· + ·) (key _ _ _ ?_ ?_ ?_) (key _ _ _ ?_ ?_ ?_)) (key _ _ _ ?_ ?_ ?_)) (key _ _ _ ?_ ?_ ?_)
  all_goals first | rfl | (simp only [yL, jr]; omega)

/-- A device's result, at an index. -/
theorem res_at (H : Cut X Y A B) (c : Dev nD) (i : S256x4096.Idx) :
    res X Y c i = ∑ K : Fin 4096, A K.val (256 * (c.val / 4 % 4) + (i 0).val) * B K.val (i 1).val := by
  have h0 : (i 0).val < 256 := (i 0).isLt
  have h1 : (i 1).val < 4096 := (i 1).isLt
  have hc : c.val < 32 := c.isLt
  unfold res oBlk
  rw [pay25_at, run_at H]
  have e0 : 256 * ((atZ c ((i 1).val / 256 / 4)).val / 4 % 4) + (cell (i 0).val (i 1).val 0).val = 256 * (c.val / 4 % 4) + (i 0).val := by
    show 256 * ((16 * (c.val / 16) + 4 * (c.val / 4 % 4) + (i 1).val / 256 / 4 % 4) / 4 % 4) + (i 0).val % 256 = _
    omega
  have e1 : 1024 * ((atZ c ((i 1).val / 256 / 4)).val % 4) + (256 * ((i 1).val / 256 % 4 % 4) + (cell (i 0).val (i 1).val 1).val) = (i 1).val := by
    show 1024 * ((16 * (c.val / 16) + 4 * (c.val / 4 % 4) + (i 1).val / 256 / 4 % 4) % 4) + (256 * ((i 1).val / 256 % 4 % 4) + (i 1).val % 256) = _
    omega
  rw [e0, e1]

end Slots

/-! ## The operands' blocks as the body finds them -/

variable (m : (ℓ : Loc nD τ sig) → Buf (Elt Ideal) ℓ)

/-- The first operand's block is the device's argument, whole. -/
theorem Xof_at (c : Dev nD) (i : S1024x1024.Idx) : Xof m c i = m ((c.tc : Thread nD τ).loc main_arg0) i := by
  have e : V1 m c main_arg0 = m ((c.tc : Thread nD τ).loc main_arg0) := (V1_of m c main_arg0 (by decide)).trans rfl
  unfold Xof
  rw [e]
  refine congrArg (m ((c.tc : Thread nD τ).loc main_arg0)) (funext fun a => Fin.ext ?_)
  match a with
  | 0 => show 0 * 1024 + 1 * (i 0).val = _; omega
  | 1 => show 0 * 1024 + 1 * (i 1).val = _; omega

/-- Where the host cuts device `c`'s columns: the first row and the first column. -/
def cut (c : Dev nD) : Fin S1024x4096.rank → ℕ := ![0, 1024 * (c.val % 4)]
/-- The cut lies within the argument. -/
theorem cut_ok (c : Dev nD) : S1024x4096.Slices (cut c) S1024x1024 := by revert c; decide

/-- The first column as the host computes it: the device's place along `z` times 1024, with a wrap that is not taken. -/
def place (c : Dev nD) : IVec S_ 32 :=
  have v5 := muli (Host.remui (Host.divui (constantI S_ 32 (Dev.word c)) (constantI S_ 32 1#32)) (constantI S_ 32 4#32)) (constantI S_ 32 1024#32)
  select (cmpi .slt v5 (constantI S_ 32 0#32)) (addi v5 (constantI S_ 32 4096#32)) v5
/-- As a number it is 1024 times the device's place along `z`. -/
theorem place_eq (c : Dev nD) : (place c (Shape.Idx.first h_S_)).toInt = 1024 * (c.val % 4) := by revert c; decide

/-- The first row, after the host's operations before the slice. -/
theorem start0 (c : Dev nD) : StableHlo.after ((hostOps0 (F := Ideal) c).take 14) (V0 m c) main_c_4 = constantI S_ 32 0#32 := by
  unfold hostOps0
  simp only [List.take_succ_cons, List.take_zero]
  after_results
/-- The first column, after the host's operations before the slice. -/
theorem start1 (c : Dev nD) : StableHlo.after ((hostOps0 (F := Ideal) c).take 14) (V0 m c) main_v8 = place c := by
  unfold hostOps0
  simp only [List.take_succ_cons, List.take_zero]
  after_results
  rfl

/-- The slice that the host takes for the call is the device's columns. -/
theorem V1_v9 (c : Dev nD) : V1 m c main_v9 = extractStridedSlice S1024x1024 (cut c) (m ((c.tc : Thread nD τ).loc main_arg1)) (cut_ok c) := by
  unfold V1
  after_results
  refine Host.dynamicSlice_eq_extractStridedSlice (s := S1024x4096) S1024x1024 _ _ (cut c) _ (cut_ok c) fun a => ?_
  match a with
  | 0 => exact congrArg (fun w : IVec S_ 32 => (w (Shape.Idx.first h_S_)).toInt) (start0 m c)
  | 1 => exact (congrArg (fun w : IVec S_ 32 => (w (Shape.Idx.first h_S_)).toInt) (start1 m c)).trans (place_eq c)

/-- The second operand's block is the device's columns of its argument. -/
theorem Yof_at (c : Dev nD) (i : S1024x1024.Idx) (u : S1024x4096.Idx) (h0 : (u 0).val = (i 0).val) (h1 : (u 1).val = 1024 * (c.val % 4) + (i 1).val) :
    Yof m c i = m ((c.tc : Thread nD τ).loc main_arg1) u := by
  unfold Yof
  rw [V1_v9]
  refine extractStridedSlice_apply (cut c) (m ((c.tc : Thread nD τ).loc main_arg1)) (cut_ok c) _ u fun a => ?_
  match a with
  | 0 => rw [h0]; show _ = 0 + (0 * 1024 + 1 * (i 0).val); omega
  | 1 => rw [h1]; show _ = 1024 * (c.val % 4) + (0 * 1024 + 1 * (i 1).val); omega

/-! ## The whole arrays -/

section Whole

variable (x : (⟨2, ![4096, 1024]⟩ : Shape).Idx → EReal) (y : (⟨2, ![4096, 4096]⟩ : Shape).Idx → EReal)

/-- The whole arrays by natural numbers. -/
def natX (K j : ℕ) : EReal := x (ix2 ⟨K % 4096, Nat.mod_lt _ (by decide)⟩ ⟨j % 1024, Nat.mod_lt _ (by decide)⟩)
/-- The second array by natural numbers. -/
def natY (K q : ℕ) : EReal := y (ix2 ⟨K % 4096, Nat.mod_lt _ (by decide)⟩ ⟨q % 4096, Nat.mod_lt _ (by decide)⟩)

/-- The first array at an index within it. -/
theorem natX_at (i : (⟨2, ![4096, 1024]⟩ : Shape).Idx) (K j : ℕ) (h0 : (i 0).val = K) (h1 : (i 1).val = j) : natX x K j = x i := by
  have b0 : (i 0).val < 4096 := (i 0).isLt
  have b1 : (i 1).val < 1024 := (i 1).isLt
  refine congrArg x (funext fun a => Fin.ext ?_)
  match a with
  | 0 => show K % 4096 = (i 0).val; omega
  | 1 => show j % 1024 = (i 1).val; omega
/-- The second array at an index within it. -/
theorem natY_at (i : (⟨2, ![4096, 4096]⟩ : Shape).Idx) (K j : ℕ) (h0 : (i 0).val = K) (h1 : (i 1).val = j) : natY y K j = y i := by
  have b0 : (i 0).val < 4096 := (i 0).isLt
  have b1 : (i 1).val < 4096 := (i 1).isLt
  refine congrArg y (funext fun a => Fin.ext ?_)
  match a with
  | 0 => show K % 4096 = (i 0).val; omega
  | 1 => show j % 4096 = (i 1).val; omega

/-- Which block along the rows a device holds. -/
theorem place_y (c : Dev nD) : ((Layout.meshBlock [2, 4, 4] ![[1], []] c : (b : Fin 2) → _) 0).val = c.val / 4 % 4 := by
  revert c; decide

/-- Blocks of the whole arrays, as the layouts of the arguments give them, are what the ring's sums are stated over. -/
theorem cut_whole
    (hx : ∀ c : Dev nD, m ((c.tc : Thread nD τ).loc main_arg0)
      = Layout.blockN ⟨2, ![1024, 1024]⟩ ⟨2, ![4096, 1024]⟩ (Layout.meshBlock [2, 4, 4] ![[1], []] c) x)
    (hy : ∀ c : Dev nD, m ((c.tc : Thread nD τ).loc main_arg1)
      = Layout.blockN ⟨2, ![1024, 4096]⟩ ⟨2, ![4096, 4096]⟩ (Layout.meshBlock [2, 4, 4] ![[1], []] c) y) :
    Cut (Xof m) (Yof m) (natX x) (natY y) where
  x d i := by
    rw [Xof_at, hx d, Layout.blockN_apply]
    refine (natX_at x _ _ _ ?_ ?_).symm
    · rw [Layout.TilesN.idx_val]; exact congrArg (fun t => t * 1024 + (i 0).val) (place_y d)
    · rw [Layout.TilesN.idx_val]; show 0 * 1024 + (i 1).val = _; omega
  y d i := by
    have hi : (i 1).val < 1024 := (i 1).isLt
    rw [Yof_at m d i (ix2 (⟨(i 0).val, (i 0).isLt⟩ : Fin 1024) (⟨1024 * (d.val % 4) + (i 1).val, by omega⟩ : Fin 4096)) rfl rfl, hy d, Layout.blockN_apply]
    refine (natY_at y _ _ _ ?_ ?_).symm
    · rw [Layout.TilesN.idx_val]; exact congrArg (fun t => t * 1024 + (i 0).val) (place_y d)
    · rw [Layout.TilesN.idx_val]; show 0 * 4096 + (1024 * (d.val % 4) + (i 1).val) = _; omega

/-! ## The reference -/

/-- The dimension numbers of the reference's product. -/
abbrev DR : DotDims Cert.ReferenceIdeal.S1024x4096 Cert.ReferenceIdeal.S4096x4096 Cert.ReferenceIdeal.S1024x4096 :=
  Cert.ReferenceIdeal.dot_S1024x4096_S4096x4096_S1024x4096_1_0_0_1_n_n

/-- The contracted index of the reference's product is a row. -/
def rowR : DR.contr.Idx ≃ Fin 4096 := contrEquiv1 DR 4096 rfl rfl

/-- What the reference returns. -/
def want : FVec Ideal ⟨2, ![1024, 4096]⟩ .f32 :=
  extf .f32 (truncf .bf16 (Host.dotGeneral (φ₁ := .bf16) (φ₂ := .bf16) DR none
    (transpose Cert.ReferenceIdeal.S1024x4096 [1, 0] x Cert.ReferenceIdeal.Gen.facts.transposes_S4096x1024_S1024x4096_1_0) y
    : FVec Ideal Cert.ReferenceIdeal.S1024x4096 .f32) Cert.ReferenceIdeal.Gen.facts.bitsLt_bf16_f32) Cert.ReferenceIdeal.Gen.facts.bitsLt_bf16_f32

/-- What the reference returns, at an index: the product of two columns over all rows. -/
theorem want_at (i : (⟨2, ![1024, 4096]⟩ : Shape).Idx) :
    want x y i = ∑ K : Fin 4096, natX x K.val (i 0).val * natY y K.val (i 1).val := by
  unfold want
  show Host.dotGeneral (F := Ideal) (φ₁ := .bf16) (φ₂ := .bf16) DR none _ _ i = _
  simp only [Host.dotGeneral]
  rw [Ideal.dotGeneral_apply, ← Equiv.sum_comp rowR.symm]
  refine Finset.sum_congr rfl fun K _ => congrArg₂ (· * ·) ?_ ?_
  · have b : (i 0).val < 1024 := (i 0).isLt
    refine (transpose_apply _ x _ _ (ix2 (⟨K.val, K.isLt⟩ : Fin 4096) (⟨(i 0).val, b⟩ : Fin 1024)) fun a => ?_).trans (natX_at x _ _ _ rfl rfl).symm
    match a with
    | 0 => rfl
    | 1 => rfl
  · exact (natY_at y _ _ _ rfl rfl).symm

/-- Every device's result is its block of the reference's. -/
theorem out_eq
    (hx : ∀ c : Dev nD, m ((c.tc : Thread nD τ).loc main_arg0)
      = Layout.blockN ⟨2, ![1024, 1024]⟩ ⟨2, ![4096, 1024]⟩ (Layout.meshBlock [2, 4, 4] ![[1], []] c) x)
    (hy : ∀ c : Dev nD, m ((c.tc : Thread nD τ).loc main_arg1)
      = Layout.blockN ⟨2, ![1024, 4096]⟩ ⟨2, ![4096, 4096]⟩ (Layout.meshBlock [2, 4, 4] ![[1], []] c) y) (c : Dev nD) :
    outBuf m c = Layout.blockN ⟨2, ![256, 4096]⟩ ⟨2, ![1024, 4096]⟩ (Layout.meshBlock [2, 4, 4] ![[1], []] c) (want x y) := by
  funext i
  refine (res_at (cut_whole m x y hx hy) c i).trans ?_
  rw [Layout.blockN_apply, want_at]
  refine Finset.sum_congr rfl fun K _ => ?_
  rw [Layout.TilesN.idx_val, Layout.TilesN.idx_val]
  refine congrArg₂ (· * ·) (congrArg (natX x K.val) ?_) (congrArg (natY y K.val) ?_)
  · refine Eq.trans ?_ (congrArg (fun t => t * 256 + (i 0).val) (place_y c)).symm
    show 256 * (c.val / 4 % 4) + (i 0).val = c.val / 4 % 4 * 256 + (i 0).val
    omega
  · show (i 1).val = 0 * 4096 + (i 1).val
    omega

end Whole

end Cert.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Deal
public import proofs.«01_k».proof.Proof.Value
public import Idealize.ShloMosaic.Adequacy
public import Idealize.ShloMosaic.Init

@[expose] public section

noncomputable section

namespace Cert.Proof

open Idealize.ShloMosaic Idealize.SL.Sem Cert.Kernel

/-! ## The two programs have one text -/

/-- The body of the one region is the same term in both. -/
theorem bodies_agree : Cert.Kernel.defs₀ (F := Bits) = Cert.KernelIdeal.defs₀ (F := Bits) := by
  unfold Cert.Kernel.defs₀ Cert.KernelIdeal.defs₀
  refine congrArg (Defs.onTc (Λ := Cert.KernelIdeal.Λ₀)) (funext fun l => ?_)
  match l with
  | ⟨0, _⟩ => exact funext fun _ => rfl

/-- So are the tables of all labels. -/
theorem tables_agree : Cert.Kernel.defs (F := Bits) = Cert.KernelIdeal.defs (F := Bits) :=
  congrArg (Pipeline.defs Cert.KernelIdeal.pcfgs) bodies_agree

/-! ## The frames -/

/-- The kernel as printed, at the bits: it terminates, its arguments end unchanged and every counter ends at zero. Its
    text is the idealized kernel's, so the one run, over any float values, is read here. -/
theorem frame_kernel : Cert.quiescent_Kernel := fun m ρ _ => by
  rw [tables_agree]
  refine (θ_run (Cert.KernelIdeal.defs (F := Bits)) (onTc (τ := Cert.KernelIdeal.τ) (Cert.KernelIdeal.main (F := Bits)))
    ⟨m, fun _ => 0, ρ⟩).mono ?_ (Cert.Ring.run_main (F := Bits) m ρ)
  exact fun _ h => ⟨fun c => ⟨(h.1 c).1, (h.1 c).2.1⟩, h.2⟩

/-- The same of the idealized kernel. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.Ring.run_main (F := Ideal) m ρ)

/-- The same of the reference, which has no semaphore. -/
theorem frame_referenceIdeal : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-! ## The values -/

/-- Over the extended reals, every device's result is its block of the reference's. -/
theorem values : Cert.algebraic_KernelIdeal_ReferenceIdeal := fun m ρ m' ρ' _ hargs =>
  ⟨_, (θ_run (Cert.KernelIdeal.defs (F := Ideal)) _ _).mono
      (fun _ h c => ⟨(h.1 c).2.2.trans (Cert.Ring.out_eq m _ _ (fun d => (hargs d).1) (fun d => (hargs d).2) c), (h.1 c).1, (h.1 c).2.1⟩)
      (Cert.Ring.run_main (F := Ideal) m ρ),
    (θ_run (Cert.ReferenceIdeal.defs (F := Ideal)) _ _).mono (fun _ h => h 0)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_referenceIdeal, trivial, values⟩

end Cert.Proof

end
